-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate [hPre_finite_gate : Cert.Pre_finite_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate [hPre_finite_gate : Cert.Pre_finite_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_gate [hKernelIdeal : Cert.KernelIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_gate [hReferenceIdeal : Cert.ReferenceIdeal.Facts] [hPre_finite_gate : Cert.Pre_finite_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_gate [hKernelIdeal : Cert.KernelIdeal.Facts] [hReferenceIdeal : Cert.ReferenceIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v479) = v0 c
          ∧ r.2.mem ((c.tc : Thread Cert.ReferenceIdeal.nD Cert.ReferenceIdeal.τ).loc Cert.ReferenceIdeal.main_v480) = v1 c
          ∧ r.2.mem ((c.tc : Thread Cert.ReferenceIdeal.nD Cert.ReferenceIdeal.τ).loc Cert.ReferenceIdeal.main_v481) = v2 c
          ∧ r.2.mem ((c.tc : Thread Cert.ReferenceIdeal.nD Cert.ReferenceIdeal.τ).loc Cert.ReferenceIdeal.main_v482) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_gate : Cert.Pre_finite_gate.Facts),
    quiescent_Kernel (hKernel := hKernel)
    ∧ quiescent_KernelIdeal (hKernelIdeal := hKernelIdeal)
    ∧ quiescent_KernelIdeal_pre_finite_gate (hKernelIdeal := hKernelIdeal) (hPre_finite_gate := hPre_finite_gate)
    ∧ quiescent_ReferenceIdeal (hReferenceIdeal := hReferenceIdeal)
    ∧ quiescent_ReferenceIdeal_pre_finite_gate (hReferenceIdeal := hReferenceIdeal) (hPre_finite_gate := hPre_finite_gate)
    ∧ preserves_Kernel_KernelIdeal
    ∧ algebraic_KernelIdeal_ReferenceIdeal_pre_finite_gate (hKernelIdeal := hKernelIdeal) (hReferenceIdeal := hReferenceIdeal) (hPre_finite_gate := hPre_finite_gate)
-- ==== Pre_finite_gate.lean ====
abbrev S8192x1024 : Shape := ⟨2, ![8192, 1024]⟩
abbrev S1024x1024 : Shape := ⟨2, ![1024, 1024]⟩
abbrev S1024 : Shape := ⟨1, ![1024]⟩
abbrev S7x1024x1024 : Shape := ⟨3, ![7, 1024, 1024]⟩
abbrev S7x1024 : Shape := ⟨2, ![7, 1024]⟩
abbrev S512x1024 : Shape := ⟨2, ![512, 1024]⟩
abbrev S512 : Shape := ⟨1, ![512]⟩
abbrev S36x512 : Shape := ⟨2, ![36, 512]⟩
abbrev S36 : Shape := ⟨1, ![36]⟩
abbrev S_ : Shape := ⟨0, ![]⟩

class Facts : Prop where
  bcast_S_S8192x1024 : S_.BroadcastsInDim S8192x1024 (![] : Fin 0 → Fin S8192x1024.rank)
  bcast_S_S512x1024 : S_.BroadcastsInDim S512x1024 (![] : Fin 0 → Fin S512x1024.rank)
  bcast_S_S512 : S_.BroadcastsInDim S512 (![] : Fin 0 → Fin S512.rank)
  bcast_S_S36x512 : S_.BroadcastsInDim S36x512 (![] : Fin 0 → Fin S36x512.rank)
  bcast_S_S36 : S_.BroadcastsInDim S36 (![] : Fin 0 → Fin S36.rank)

variable [Facts]

def fn_part1 {F : FTy → Type} [FloatOps F] (main_arg8 : FVec F S36x512 .f32) (main_arg9 : FVec F S36 .f32) (main_v4 : IVec S8192x1024 1) (main_v9 : IVec S512x1024 1) (main_v14 : IVec S512 1) (main_v16 : IVec S36x512 1) : IVec S8192x1024 1 × IVec S512x1024 1 × IVec S512 1 × IVec S36x512 1 × IVec S36 1 :=
  let main_cst_6 : FVec F S_ .f32 := constant S_ .f32 0x7F800000#32
  let main_v17 : FVec F S36x512 .f32 := broadcastInDim S36x512 ![] bcast_S_S36x512 main_cst_6
  let main_v18 : IVec S36x512 1 := cmpf .olt main_arg8 main_v17
  let main_v19 : IVec S36x512 1 := andi main_v16 main_v18
  let main_cst_7 : FVec F S_ .f32 := constant S_ .f32 0xFF800000#32
  let main_v20 : FVec F S36 .f32 := broadcastInDim S36 ![] bcast_S_S36 main_cst_7
  let main_v21 : IVec S36 1 := cmpf .ogt main_arg9 main_v20
  let main_cst_8 : FVec F S_ .f32 := constant S_ .f32 0x7F800000#32
  let main_v22 : FVec F S36 .f32 := broadcastInDim S36 ![] bcast_S_S36 main_cst_8
  let main_v23 : IVec S36 1 := cmpf .olt main_arg9 main_v22
  let main_v24 : IVec S36 1 := andi main_v21 main_v23
  (main_v4, main_v9, main_v14, main_v19, main_v24)

def fn {F : FTy → Type} [FloatOps F] (main_arg0 : FVec F S8192x1024 .f32) (main_arg1 : FVec F S8192x1024 .f32) (main_arg2 : FVec F S1024x1024 .f32) (main_arg3 : FVec F S1024 .f32) (main_arg4 : FVec F S7x1024x1024 .f32) (main_arg5 : FVec F S7x1024 .f32) (main_arg6 : FVec F S512x1024 .f32) (main_arg7 : FVec F S512 .f32) (main_arg8 : FVec F S36x512 .f32) (main_arg9 : FVec F S36 .f32) : IVec S8192x1024 1 × IVec S512x1024 1 × IVec S512 1 × IVec S36x512 1 × IVec S36 1 :=
  let main_cst : FVec F S_ .f32 := constant S_ .f32 0xFF800000#32
  let main_v0 : FVec F S8192x1024 .f32 := broadcastInDim S8192x1024 ![] bcast_S_S8192x1024 main_cst
  let main_v1 : IVec S8192x1024 1 := cmpf .ogt main_arg1 main_v0
  let main_cst_0 : FVec F S_ .f32 := constant S_ .f32 0x7F800000#32
  let main_v2 : FVec F S8192x1024 .f32 := broadcastInDim S8192x1024 ![] bcast_S_S8192x1024 main_cst_0
  let main_v3 : IVec S8192x1024 1 := cmpf .olt main_arg1 main_v2
  let main_v4 : IVec S8192x1024 1 := andi main_v1 main_v3
  let main_cst_1 : FVec F S_ .f32 := constant S_ .f32 0xFF800000#32
  let main_v5 : FVec F S512x1024 .f32 := broadcastInDim S512x1024 ![] bcast_S_S512x1024 main_cst_1
  let main_v6 : IVec S512x1024 1 := cmpf .ogt main_arg6 main_v5
  let main_cst_2 : FVec F S_ .f32 := constant S_ .f32 0x7F800000#32
  let main_v7 : FVec F S512x1024 .f32 := broadcastInDim S512x1024 ![] bcast_S_S512x1024 main_cst_2
  let main_v8 : IVec S512x1024 1 := cmpf .olt main_arg6 main_v7
  let main_v9 : IVec S512x1024 1 := andi main_v6 main_v8
  let main_cst_3 : FVec F S_ .f32 := constant S_ .f32 0xFF800000#32
  let main_v10 : FVec F S512 .f32 := broadcastInDim S512 ![] bcast_S_S512 main_cst_3
  let main_v11 : IVec S512 1 := cmpf .ogt main_arg7 main_v10
  let main_cst_4 : FVec F S_ .f32 := constant S_ .f32 0x7F800000#32
  let main_v12 : FVec F S512 .f32 := broadcastInDim S512 ![] bcast_S_S512 main_cst_4
  let main_v13 : IVec S512 1 := cmpf .olt main_arg7 main_v12
  let main_v14 : IVec S512 1 := andi main_v11 main_v13
  let main_cst_5 : FVec F S_ .f32 := constant S_ .f32 0xFF800000#32
  let main_v15 : FVec F S36x512 .f32 := broadcastInDim S36x512 ![] bcast_S_S36x512 main_cst_5
  let main_v16 : IVec S36x512 1 := cmpf .ogt main_arg8 main_v15
  fn_part1 (F := F) main_arg8 main_arg9 main_v4 main_v9 main_v14 main_v16
-- ==== Kernel.lean ====
abbrev S8192x1024 : Shape := ⟨2, ![8192, 1024]⟩
abbrev S1024x1024 : Shape := ⟨2, ![1024, 1024]⟩
abbrev S1024 : Shape := ⟨1, ![1024]⟩
abbrev S7x1024x1024 : Shape := ⟨3, ![7, 1024, 1024]⟩
abbrev S7x1024 : Shape := ⟨2, ![7, 1024]⟩
abbrev S512x1024 : Shape := ⟨2, ![512, 1024]⟩
abbrev S512 : Shape := ⟨1, ![512]⟩
abbrev S36x512 : Shape := ⟨2, ![36, 512]⟩
abbrev S36 : Shape := ⟨1, ![36]⟩
abbrev S8192x36 : Shape := ⟨2, ![8192, 36]⟩
abbrev S1024x36 : Shape := ⟨2, ![1024, 36]⟩
abbrev S1024x512 : Shape := ⟨2, ![1024, 512]⟩
abbrev S1x512 : Shape := ⟨2, ![1, 512]⟩
abbrev S1x36 : Shape := ⟨2, ![1, 36]⟩
abbrev S1024x1 : Shape := ⟨2, ![1024, 1]⟩
abbrev S512x36 : Shape := ⟨2, ![512, 36]⟩
abbrev S1x1024 : Shape := ⟨2, ![1, 1024]⟩
abbrev S512x1 : Shape := ⟨2, ![512, 1]⟩
abbrev S1x1024x1024 : Shape := ⟨3, ![1, 1024, 1024]⟩

abbrev nBuf : Space → Nat
  | .hbm => 14
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S7x1024x1024, .f32⟩
  | .hbm, ⟨5, _⟩ => ⟨S7x1024, .f32⟩
  | .hbm, ⟨6, _⟩ => ⟨S512x1024, .f32⟩
  | .hbm, ⟨7, _⟩ => ⟨S512, .f32⟩
  | .hbm, ⟨8, _⟩ => ⟨S36x512, .f32⟩
  | .hbm, ⟨9, _⟩ => ⟨S36, .f32⟩
  | .hbm, ⟨10, _⟩ => ⟨S8192x36, .f32⟩
  | .hbm, ⟨11, _⟩ => ⟨S8192x36, .f32⟩
  | .hbm, ⟨12, _⟩ => ⟨S8192x36, .f32⟩
  | .hbm, ⟨13, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S512x1024, .f32⟩
  | .local _ .vmem, ⟨3, _⟩ => ⟨S512, .f32⟩
  | .local _ .vmem, ⟨4, _⟩ => ⟨S36x512, .f32⟩
  | .local _ .vmem, ⟨5, _⟩ => ⟨S36, .f32⟩
  | .local _ .vmem, ⟨6, _⟩ => ⟨S1024x36, .f32⟩
  | .local _ .vmem, ⟨7, _⟩ => ⟨S1024x36, .f32⟩
  | .local _ .vmem, ⟨8, _⟩ => ⟨S1024x36, .f32⟩
  | .local _ .vmem, ⟨9, _⟩ => ⟨S1024x36, .f32⟩
  | .local _ .vmem, ⟨10, _⟩ => ⟨S1024x36, .f32⟩
  | .local _ .vmem, ⟨11, _⟩ => ⟨S1024x36, .f32⟩
  | .local _ .vmem, ⟨12, _⟩ => ⟨S512x1024, .f32⟩
  | .local _ .vmem, ⟨13, _⟩ => ⟨S512x1024, .f32⟩
  | .local _ .vmem, ⟨14, _⟩ => ⟨S512x36, .f32⟩
  | .local _ .vmem, ⟨15, _⟩ => ⟨S512x36, .f32⟩
  | .local _ .vmem, ⟨16, _⟩ => ⟨S1024x1024, .f32⟩
  | .local _ .vmem, ⟨17, _⟩ => ⟨S1024, .f32⟩
  | .local _ .vmem, ⟨18, _⟩ => ⟨S7x1024x1024, .f32⟩
  | .local _ .vmem, ⟨19, _⟩ => ⟨S7x1024, .f32⟩
  | .local _ .vmem, ⟨20, _⟩ => ⟨S512x1024, .f32⟩
  | .local _ .vmem, ⟨21, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S36x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S36 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x36 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x36 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x36 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x36 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S7x1024x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S7x1024 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S512x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S8192x1024 : Shape := ⟨2, ![8192, 1024]⟩
abbrev S1024x1024 : Shape := ⟨2, ![1024, 1024]⟩
abbrev S1024 : Shape := ⟨1, ![1024]⟩
abbrev S7x1024x1024 : Shape := ⟨3, ![7, 1024, 1024]⟩
abbrev S7x1024 : Shape := ⟨2, ![7, 1024]⟩
abbrev S512x1024 : Shape := ⟨2, ![512, 1024]⟩
abbrev S512 : Shape := ⟨1, ![512]⟩
abbrev S36x512 : Shape := ⟨2, ![36, 512]⟩
abbrev S36 : Shape := ⟨1, ![36]⟩
abbrev S1024x512 : Shape := ⟨2, ![1024, 512]⟩
abbrev S8192x512 : Shape := ⟨2, ![8192, 512]⟩
abbrev S1x512 : Shape := ⟨2, ![1, 512]⟩
abbrev S_ : Shape := ⟨0, ![]⟩
abbrev S512x36 : Shape := ⟨2, ![512, 36]⟩
abbrev S8192x36 : Shape := ⟨2, ![8192, 36]⟩
abbrev S1x36 : Shape := ⟨2, ![1, 36]⟩
abbrev S8192x1 : Shape := ⟨2, ![8192, 1]⟩
abbrev S8192x2 : Shape := ⟨2, ![8192, 2]⟩
abbrev S8192x3 : Shape := ⟨2, ![8192, 3]⟩
abbrev S8192x4 : Shape := ⟨2, ![8192, 4]⟩
abbrev S8192x5 : Shape := ⟨2, ![8192, 5]⟩
abbrev S8192x6 : Shape := ⟨2, ![8192, 6]⟩
abbrev S8192x7 : Shape := ⟨2, ![8192, 7]⟩
abbrev S8192x8 : Shape := ⟨2, ![8192, 8]⟩
abbrev S8192 : Shape := ⟨1, ![8192]⟩
abbrev S8192x1x1 : Shape := ⟨3, ![8192, 1, 1]⟩
abbrev S8192x1x2 : Shape := ⟨3, ![8192, 1, 2]⟩
abbrev S1x1x1 : Shape := ⟨3, ![1, 1, 1]⟩
abbrev S8192x2x1 : Shape := ⟨3, ![8192, 2, 1]⟩
abbrev S8192x2x2 : Shape := ⟨3, ![8192, 2, 2]⟩
abbrev S1x1x2 : Shape := ⟨3, ![1, 1, 2]⟩
abbrev S1x1x3 : Shape := ⟨3, ![1, 1, 3]⟩
abbrev S8192x2x3 : Shape := ⟨3, ![8192, 2, 3]⟩
abbrev S1x1x4 : Shape := ⟨3, ![1, 1, 4]⟩
abbrev S8192x2x4 : Shape := ⟨3, ![8192, 2, 4]⟩
abbrev S1x1x5 : Shape := ⟨3, ![1, 1, 5]⟩
abbrev S8192x2x5 : Shape := ⟨3, ![8192, 2, 5]⟩
abbrev S1x1x6 : Shape := ⟨3, ![1, 1, 6]⟩
abbrev S8192x2x6 : Shape := ⟨3, ![8192, 2, 6]⟩
abbrev S1x1x7 : Shape := ⟨3, ![1, 1, 7]⟩
abbrev S8192x2x7 : Shape := ⟨3, ![8192, 2, 7]⟩
abbrev S1x1x8 : Shape := ⟨3, ![1, 1, 8]⟩
abbrev S8192x2x8 : Shape := ⟨3, ![8192, 2, 8]⟩
abbrev S1x1024 : Shape := ⟨2, ![1, 1024]⟩
abbrev S8192x1x1024 : Shape := ⟨3, ![8192, 1, 1024]⟩
abbrev S1x1024x1024 : Shape := ⟨3, ![1, 1024, 1024]⟩
abbrev S8192x2x1024 : Shape := ⟨3, ![8192, 2, 1024]⟩
abbrev S8192x3x1024 : Shape := ⟨3, ![8192, 3, 1024]⟩
abbrev S8192x3x1 : Shape := ⟨3, ![8192, 3, 1]⟩
abbrev S8192x4x1024 : Shape := ⟨3, ![8192, 4, 1024]⟩
abbrev S8192x4x1 : Shape := ⟨3, ![8192, 4, 1]⟩
abbrev S8192x5x1024 : Shape := ⟨3, ![8192, 5, 1024]⟩
abbrev S8192x5x1 : Shape := ⟨3, ![8192, 5, 1]⟩
abbrev S8192x6x1024 : Shape := ⟨3, ![8192, 6, 1024]⟩
abbrev S8192x6x1 : Shape := ⟨3, ![8192, 6, 1]⟩
abbrev S8192x7x1024 : Shape := ⟨3, ![8192, 7, 1024]⟩
abbrev S8192x7x1 : Shape := ⟨3, ![8192, 7, 1]⟩
abbrev S8192x8x1024 : Shape := ⟨3, ![8192, 8, 1024]⟩
abbrev S8192x8x1 : Shape := ⟨3, ![8192, 8, 1]⟩

abbrev nBuf : Space → Nat
  | .hbm => 670
  | .vmem => 0
  | .smem => 0
  | _ => 0

abbrev hbmTy0_0 (i : Nat) : BufTy := match i % 128 with
  | 0 => ⟨S8192x1024, .f32⟩
  | 1 => ⟨S8192x1024, .f32⟩
  | 2 => ⟨S1024x1024, .f32⟩
  | 3 => ⟨S1024, .f32⟩
  | 4 => ⟨S7x1024x1024, .f32⟩
  | 5 => ⟨S7x1024, .f32⟩
  | 6 => ⟨S512x1024, .f32⟩
  | 7 => ⟨S512, .f32⟩
  | 8 => ⟨S36x512, .f32⟩
  | 9 => ⟨S36, .f32⟩
  | 10 => ⟨S1024x512, .f32⟩
  | 11 => ⟨S8192x512, .f32⟩
  | 12 => ⟨S1x512, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S512x36, .f32⟩
  | 19 => ⟨S8192x36, .f32⟩
  | 20 => ⟨S1x36, .f32⟩
  | 21 => ⟨S8192x36, .f32⟩
  | 22 => ⟨S8192x36, .f32⟩
  | 23 => ⟨S8192x1, .f32⟩
  | 24 => ⟨S8192x2, .f32⟩
  | 25 => ⟨S8192x3, .f32⟩
  | 26 => ⟨S8192x4, .f32⟩
  | 27 => ⟨S8192x5, .f32⟩
  | 28 => ⟨S8192x6, .f32⟩
  | 29 => ⟨S8192x7, .f32⟩
  | 30 => ⟨S8192x8, .f32⟩
  | 31 => ⟨S8192x1, .f32⟩
  | 32 => ⟨S8192x1, .i32⟩
  | 33 => ⟨S_, .f32⟩
  | 34 => ⟨S8192, .f32⟩
  | 35 => ⟨S_, .f32⟩
  | 36 => ⟨S8192, .f32⟩
  | 37 => ⟨S8192, .f32⟩
  | 38 => ⟨S8192x1, .f32⟩
  | 39 => ⟨S8192x1, .f32⟩
  | 40 => ⟨S8192x1, .f32⟩
  | 41 => ⟨S_, .f32⟩
  | 42 => ⟨S8192, .f32⟩
  | 43 => ⟨S8192x1, .f32⟩
  | 44 => ⟨S8192x1, .f32⟩
  | 45 => ⟨S8192, .i32⟩
  | 46 => ⟨S8192x1, .i32⟩
  | 47 => ⟨S_, .f32⟩
  | 48 => ⟨S8192x1, .f32⟩
  | 49 => ⟨S_, .i32⟩
  | 50 => ⟨S8192x1, .i32⟩
  | 51 => ⟨S8192x1, .i1⟩
  | 52 => ⟨S_, .i32⟩
  | 53 => ⟨S8192x1, .i32⟩
  | 54 => ⟨S8192x1, .i32⟩
  | 55 => ⟨S8192x1, .i32⟩
  | 56 => ⟨S_, .i32⟩
  | 57 => ⟨S8192x1, .i32⟩
  | 58 => ⟨S8192x1, .i1⟩
  | 59 => ⟨S_, .i32⟩
  | 60 => ⟨S8192x1, .i32⟩
  | 61 => ⟨S8192x1, .i32⟩
  | 62 => ⟨S8192x1, .i32⟩
  | 63 => ⟨S8192x1x1, .i32⟩
  | 64 => ⟨S8192x1x1, .i32⟩
  | 65 => ⟨S8192x1x2, .i32⟩
  | 66 => ⟨S8192x1, .f32⟩
  | 67 => ⟨S8192x1x1, .i32⟩
  | 68 => ⟨S1x1x1, .i32⟩
  | 69 => ⟨S8192x1x1, .i32⟩
  | 70 => ⟨S8192x1x1, .i1⟩
  | 71 => ⟨S8192x1x1, .f32⟩
  | 72 => ⟨S_, .f32⟩
  | 73 => ⟨S8192x1, .f32⟩
  | 74 => ⟨S_, .f32⟩
  | 75 => ⟨S8192, .f32⟩
  | 76 => ⟨S_, .f32⟩
  | 77 => ⟨S8192, .f32⟩
  | 78 => ⟨S8192, .f32⟩
  | 79 => ⟨S8192x1, .f32⟩
  | 80 => ⟨S8192x1, .f32⟩
  | 81 => ⟨S8192x1, .f32⟩
  | 82 => ⟨S_, .f32⟩
  | 83 => ⟨S8192, .f32⟩
  | 84 => ⟨S8192x1, .f32⟩
  | 85 => ⟨S8192x1, .f32⟩
  | 86 => ⟨S8192x2, .f32⟩
  | 87 => ⟨S8192x2, .i32⟩
  | 88 => ⟨S_, .f32⟩
  | 89 => ⟨S8192, .f32⟩
  | 90 => ⟨S_, .f32⟩
  | 91 => ⟨S8192, .f32⟩
  | 92 => ⟨S8192, .f32⟩
  | 93 => ⟨S8192x1, .f32⟩
  | 94 => ⟨S8192x2, .f32⟩
  | 95 => ⟨S8192x2, .f32⟩
  | 96 => ⟨S8192x2, .f32⟩
  | 97 => ⟨S_, .f32⟩
  | 98 => ⟨S8192, .f32⟩
  | 99 => ⟨S8192x1, .f32⟩
  | 100 => ⟨S8192x2, .f32⟩
  | 101 => ⟨S8192x2, .f32⟩
  | 102 => ⟨S8192, .i32⟩
  | 103 => ⟨S8192x1, .i32⟩
  | 104 => ⟨S_, .f32⟩
  | 105 => ⟨S8192x2, .f32⟩
  | 106 => ⟨S_, .i32⟩
  | 107 => ⟨S8192x1, .i32⟩
  | 108 => ⟨S8192x1, .i1⟩
  | 109 => ⟨S_, .i32⟩
  | 110 => ⟨S8192x1, .i32⟩
  | 111 => ⟨S8192x1, .i32⟩
  | 112 => ⟨S8192x1, .i32⟩
  | 113 => ⟨S_, .i32⟩
  | 114 => ⟨S8192x2, .i32⟩
  | 115 => ⟨S8192x2, .i1⟩
  | 116 => ⟨S_, .i32⟩
  | 117 => ⟨S8192x2, .i32⟩
  | 118 => ⟨S8192x2, .i32⟩
  | 119 => ⟨S8192x2, .i32⟩
  | 120 => ⟨S8192x2, .i32⟩
  | 121 => ⟨S8192x2x1, .i32⟩
  | 122 => ⟨S8192x2x1, .i32⟩
  | 123 => ⟨S8192x2x2, .i32⟩
  | 124 => ⟨S8192x2, .f32⟩
  | 125 => ⟨S8192x2x1, .i32⟩
  | 126 => ⟨S1x1x2, .i32⟩
  | 127 => ⟨S8192x2x2, .i32⟩
  | _ => ⟨S8192x1024, .f32⟩

abbrev hbmTy0_1 (i : Nat) : BufTy := match i % 128 with
  | 0 => ⟨S8192x2x2, .i32⟩
  | 1 => ⟨S8192x2x2, .i1⟩
  | 2 => ⟨S8192x2x2, .f32⟩
  | 3 => ⟨S_, .f32⟩
  | 4 => ⟨S8192x2, .f32⟩
  | 5 => ⟨S_, .f32⟩
  | 6 => ⟨S8192, .f32⟩
  | 7 => ⟨S_, .f32⟩
  | 8 => ⟨S8192, .f32⟩
  | 9 => ⟨S8192, .f32⟩
  | 10 => ⟨S8192x1, .f32⟩
  | 11 => ⟨S8192x2, .f32⟩
  | 12 => ⟨S8192x2, .f32⟩
  | 13 => ⟨S8192x2, .f32⟩
  | 14 => ⟨S_, .f32⟩
  | 15 => ⟨S8192, .f32⟩
  | 16 => ⟨S8192x1, .f32⟩
  | 17 => ⟨S8192x2, .f32⟩
  | 18 => ⟨S8192x2, .f32⟩
  | 19 => ⟨S8192x2, .f32⟩
  | 20 => ⟨S8192x2, .i32⟩
  | 21 => ⟨S_, .f32⟩
  | 22 => ⟨S8192, .f32⟩
  | 23 => ⟨S_, .f32⟩
  | 24 => ⟨S8192, .f32⟩
  | 25 => ⟨S8192, .f32⟩
  | 26 => ⟨S8192x1, .f32⟩
  | 27 => ⟨S8192x2, .f32⟩
  | 28 => ⟨S8192x2, .f32⟩
  | 29 => ⟨S8192x2, .f32⟩
  | 30 => ⟨S_, .f32⟩
  | 31 => ⟨S8192, .f32⟩
  | 32 => ⟨S8192x1, .f32⟩
  | 33 => ⟨S8192x2, .f32⟩
  | 34 => ⟨S8192x2, .f32⟩
  | 35 => ⟨S8192, .i32⟩
  | 36 => ⟨S8192x1, .i32⟩
  | 37 => ⟨S_, .f32⟩
  | 38 => ⟨S8192x3, .f32⟩
  | 39 => ⟨S_, .i32⟩
  | 40 => ⟨S8192x1, .i32⟩
  | 41 => ⟨S8192x1, .i1⟩
  | 42 => ⟨S_, .i32⟩
  | 43 => ⟨S8192x1, .i32⟩
  | 44 => ⟨S8192x1, .i32⟩
  | 45 => ⟨S8192x1, .i32⟩
  | 46 => ⟨S_, .i32⟩
  | 47 => ⟨S8192x2, .i32⟩
  | 48 => ⟨S8192x2, .i1⟩
  | 49 => ⟨S_, .i32⟩
  | 50 => ⟨S8192x2, .i32⟩
  | 51 => ⟨S8192x2, .i32⟩
  | 52 => ⟨S8192x2, .i32⟩
  | 53 => ⟨S8192x2, .i32⟩
  | 54 => ⟨S8192x2x1, .i32⟩
  | 55 => ⟨S8192x2x1, .i32⟩
  | 56 => ⟨S8192x2x2, .i32⟩
  | 57 => ⟨S8192x3, .f32⟩
  | 58 => ⟨S8192x2x1, .i32⟩
  | 59 => ⟨S1x1x3, .i32⟩
  | 60 => ⟨S8192x2x3, .i32⟩
  | 61 => ⟨S8192x2x3, .i32⟩
  | 62 => ⟨S8192x2x3, .i1⟩
  | 63 => ⟨S8192x2x3, .f32⟩
  | 64 => ⟨S_, .f32⟩
  | 65 => ⟨S8192x3, .f32⟩
  | 66 => ⟨S_, .f32⟩
  | 67 => ⟨S8192, .f32⟩
  | 68 => ⟨S_, .f32⟩
  | 69 => ⟨S8192, .f32⟩
  | 70 => ⟨S8192, .f32⟩
  | 71 => ⟨S8192x1, .f32⟩
  | 72 => ⟨S8192x3, .f32⟩
  | 73 => ⟨S8192x3, .f32⟩
  | 74 => ⟨S8192x3, .f32⟩
  | 75 => ⟨S_, .f32⟩
  | 76 => ⟨S8192, .f32⟩
  | 77 => ⟨S8192x1, .f32⟩
  | 78 => ⟨S8192x3, .f32⟩
  | 79 => ⟨S8192x3, .f32⟩
  | 80 => ⟨S8192x2, .f32⟩
  | 81 => ⟨S8192x2, .i32⟩
  | 82 => ⟨S_, .f32⟩
  | 83 => ⟨S8192, .f32⟩
  | 84 => ⟨S_, .f32⟩
  | 85 => ⟨S8192, .f32⟩
  | 86 => ⟨S8192, .f32⟩
  | 87 => ⟨S8192x1, .f32⟩
  | 88 => ⟨S8192x2, .f32⟩
  | 89 => ⟨S8192x2, .f32⟩
  | 90 => ⟨S8192x2, .f32⟩
  | 91 => ⟨S_, .f32⟩
  | 92 => ⟨S8192, .f32⟩
  | 93 => ⟨S8192x1, .f32⟩
  | 94 => ⟨S8192x2, .f32⟩
  | 95 => ⟨S8192x2, .f32⟩
  | 96 => ⟨S8192, .i32⟩
  | 97 => ⟨S8192x1, .i32⟩
  | 98 => ⟨S_, .f32⟩
  | 99 => ⟨S8192x4, .f32⟩
  | 100 => ⟨S_, .i32⟩
  | 101 => ⟨S8192x1, .i32⟩
  | 102 => ⟨S8192x1, .i1⟩
  | 103 => ⟨S_, .i32⟩
  | 104 => ⟨S8192x1, .i32⟩
  | 105 => ⟨S8192x1, .i32⟩
  | 106 => ⟨S8192x1, .i32⟩
  | 107 => ⟨S_, .i32⟩
  | 108 => ⟨S8192x2, .i32⟩
  | 109 => ⟨S8192x2, .i1⟩
  | 110 => ⟨S_, .i32⟩
  | 111 => ⟨S8192x2, .i32⟩
  | 112 => ⟨S8192x2, .i32⟩
  | 113 => ⟨S8192x2, .i32⟩
  | 114 => ⟨S8192x2, .i32⟩
  | 115 => ⟨S8192x2x1, .i32⟩
  | 116 => ⟨S8192x2x1, .i32⟩
  | 117 => ⟨S8192x2x2, .i32⟩
  | 118 => ⟨S8192x4, .f32⟩
  | 119 => ⟨S8192x2x1, .i32⟩
  | 120 => ⟨S1x1x4, .i32⟩
  | 121 => ⟨S8192x2x4, .i32⟩
  | 122 => ⟨S8192x2x4, .i32⟩
  | 123 => ⟨S8192x2x4, .i1⟩
  | 124 => ⟨S8192x2x4, .f32⟩
  | 125 => ⟨S_, .f32⟩
  | 126 => ⟨S8192x4, .f32⟩
  | 127 => ⟨S_, .f32⟩
  | _ => ⟨S8192x1024, .f32⟩

abbrev hbmTy0_2 (i : Nat) : BufTy := match i % 128 with
  | 0 => ⟨S8192, .f32⟩
  | 1 => ⟨S_, .f32⟩
  | 2 => ⟨S8192, .f32⟩
  | 3 => ⟨S8192, .f32⟩
  | 4 => ⟨S8192x1, .f32⟩
  | 5 => ⟨S8192x4, .f32⟩
  | 6 => ⟨S8192x4, .f32⟩
  | 7 => ⟨S8192x4, .f32⟩
  | 8 => ⟨S_, .f32⟩
  | 9 => ⟨S8192, .f32⟩
  | 10 => ⟨S8192x1, .f32⟩
  | 11 => ⟨S8192x4, .f32⟩
  | 12 => ⟨S8192x4, .f32⟩
  | 13 => ⟨S8192x2, .f32⟩
  | 14 => ⟨S8192x2, .i32⟩
  | 15 => ⟨S_, .f32⟩
  | 16 => ⟨S8192, .f32⟩
  | 17 => ⟨S_, .f32⟩
  | 18 => ⟨S8192, .f32⟩
  | 19 => ⟨S8192, .f32⟩
  | 20 => ⟨S8192x1, .f32⟩
  | 21 => ⟨S8192x2, .f32⟩
  | 22 => ⟨S8192x2, .f32⟩
  | 23 => ⟨S8192x2, .f32⟩
  | 24 => ⟨S_, .f32⟩
  | 25 => ⟨S8192, .f32⟩
  | 26 => ⟨S8192x1, .f32⟩
  | 27 => ⟨S8192x2, .f32⟩
  | 28 => ⟨S8192x2, .f32⟩
  | 29 => ⟨S8192, .i32⟩
  | 30 => ⟨S8192x1, .i32⟩
  | 31 => ⟨S_, .f32⟩
  | 32 => ⟨S8192x5, .f32⟩
  | 33 => ⟨S_, .i32⟩
  | 34 => ⟨S8192x1, .i32⟩
  | 35 => ⟨S8192x1, .i1⟩
  | 36 => ⟨S_, .i32⟩
  | 37 => ⟨S8192x1, .i32⟩
  | 38 => ⟨S8192x1, .i32⟩
  | 39 => ⟨S8192x1, .i32⟩
  | 40 => ⟨S_, .i32⟩
  | 41 => ⟨S8192x2, .i32⟩
  | 42 => ⟨S8192x2, .i1⟩
  | 43 => ⟨S_, .i32⟩
  | 44 => ⟨S8192x2, .i32⟩
  | 45 => ⟨S8192x2, .i32⟩
  | 46 => ⟨S8192x2, .i32⟩
  | 47 => ⟨S8192x2, .i32⟩
  | 48 => ⟨S8192x2x1, .i32⟩
  | 49 => ⟨S8192x2x1, .i32⟩
  | 50 => ⟨S8192x2x2, .i32⟩
  | 51 => ⟨S8192x5, .f32⟩
  | 52 => ⟨S8192x2x1, .i32⟩
  | 53 => ⟨S1x1x5, .i32⟩
  | 54 => ⟨S8192x2x5, .i32⟩
  | 55 => ⟨S8192x2x5, .i32⟩
  | 56 => ⟨S8192x2x5, .i1⟩
  | 57 => ⟨S8192x2x5, .f32⟩
  | 58 => ⟨S_, .f32⟩
  | 59 => ⟨S8192x5, .f32⟩
  | 60 => ⟨S_, .f32⟩
  | 61 => ⟨S8192, .f32⟩
  | 62 => ⟨S_, .f32⟩
  | 63 => ⟨S8192, .f32⟩
  | 64 => ⟨S8192, .f32⟩
  | 65 => ⟨S8192x1, .f32⟩
  | 66 => ⟨S8192x5, .f32⟩
  | 67 => ⟨S8192x5, .f32⟩
  | 68 => ⟨S8192x5, .f32⟩
  | 69 => ⟨S_, .f32⟩
  | 70 => ⟨S8192, .f32⟩
  | 71 => ⟨S8192x1, .f32⟩
  | 72 => ⟨S8192x5, .f32⟩
  | 73 => ⟨S8192x5, .f32⟩
  | 74 => ⟨S8192x2, .f32⟩
  | 75 => ⟨S8192x2, .i32⟩
  | 76 => ⟨S_, .f32⟩
  | 77 => ⟨S8192, .f32⟩
  | 78 => ⟨S_, .f32⟩
  | 79 => ⟨S8192, .f32⟩
  | 80 => ⟨S8192, .f32⟩
  | 81 => ⟨S8192x1, .f32⟩
  | 82 => ⟨S8192x2, .f32⟩
  | 83 => ⟨S8192x2, .f32⟩
  | 84 => ⟨S8192x2, .f32⟩
  | 85 => ⟨S_, .f32⟩
  | 86 => ⟨S8192, .f32⟩
  | 87 => ⟨S8192x1, .f32⟩
  | 88 => ⟨S8192x2, .f32⟩
  | 89 => ⟨S8192x2, .f32⟩
  | 90 => ⟨S8192, .i32⟩
  | 91 => ⟨S8192x1, .i32⟩
  | 92 => ⟨S_, .f32⟩
  | 93 => ⟨S8192x6, .f32⟩
  | 94 => ⟨S_, .i32⟩
  | 95 => ⟨S8192x1, .i32⟩
  | 96 => ⟨S8192x1, .i1⟩
  | 97 => ⟨S_, .i32⟩
  | 98 => ⟨S8192x1, .i32⟩
  | 99 => ⟨S8192x1, .i32⟩
  | 100 => ⟨S8192x1, .i32⟩
  | 101 => ⟨S_, .i32⟩
  | 102 => ⟨S8192x2, .i32⟩
  | 103 => ⟨S8192x2, .i1⟩
  | 104 => ⟨S_, .i32⟩
  | 105 => ⟨S8192x2, .i32⟩
  | 106 => ⟨S8192x2, .i32⟩
  | 107 => ⟨S8192x2, .i32⟩
  | 108 => ⟨S8192x2, .i32⟩
  | 109 => ⟨S8192x2x1, .i32⟩
  | 110 => ⟨S8192x2x1, .i32⟩
  | 111 => ⟨S8192x2x2, .i32⟩
  | 112 => ⟨S8192x6, .f32⟩
  | 113 => ⟨S8192x2x1, .i32⟩
  | 114 => ⟨S1x1x6, .i32⟩
  | 115 => ⟨S8192x2x6, .i32⟩
  | 116 => ⟨S8192x2x6, .i32⟩
  | 117 => ⟨S8192x2x6, .i1⟩
  | 118 => ⟨S8192x2x6, .f32⟩
  | 119 => ⟨S_, .f32⟩
  | 120 => ⟨S8192x6, .f32⟩
  | 121 => ⟨S_, .f32⟩
  | 122 => ⟨S8192, .f32⟩
  | 123 => ⟨S_, .f32⟩
  | 124 => ⟨S8192, .f32⟩
  | 125 => ⟨S8192, .f32⟩
  | 126 => ⟨S8192x1, .f32⟩
  | 127 => ⟨S8192x6, .f32⟩
  | _ => ⟨S8192x1024, .f32⟩

abbrev hbmTy0_3 (i : Nat) : BufTy := match i % 128 with
  | 0 => ⟨S8192x6, .f32⟩
  | 1 => ⟨S8192x6, .f32⟩
  | 2 => ⟨S_, .f32⟩
  | 3 => ⟨S8192, .f32⟩
  | 4 => ⟨S8192x1, .f32⟩
  | 5 => ⟨S8192x6, .f32⟩
  | 6 => ⟨S8192x6, .f32⟩
  | 7 => ⟨S8192x2, .f32⟩
  | 8 => ⟨S8192x2, .i32⟩
  | 9 => ⟨S_, .f32⟩
  | 10 => ⟨S8192, .f32⟩
  | 11 => ⟨S_, .f32⟩
  | 12 => ⟨S8192, .f32⟩
  | 13 => ⟨S8192, .f32⟩
  | 14 => ⟨S8192x1, .f32⟩
  | 15 => ⟨S8192x2, .f32⟩
  | 16 => ⟨S8192x2, .f32⟩
  | 17 => ⟨S8192x2, .f32⟩
  | 18 => ⟨S_, .f32⟩
  | 19 => ⟨S8192, .f32⟩
  | 20 => ⟨S8192x1, .f32⟩
  | 21 => ⟨S8192x2, .f32⟩
  | 22 => ⟨S8192x2, .f32⟩
  | 23 => ⟨S8192, .i32⟩
  | 24 => ⟨S8192x1, .i32⟩
  | 25 => ⟨S_, .f32⟩
  | 26 => ⟨S8192x7, .f32⟩
  | 27 => ⟨S_, .i32⟩
  | 28 => ⟨S8192x1, .i32⟩
  | 29 => ⟨S8192x1, .i1⟩
  | 30 => ⟨S_, .i32⟩
  | 31 => ⟨S8192x1, .i32⟩
  | 32 => ⟨S8192x1, .i32⟩
  | 33 => ⟨S8192x1, .i32⟩
  | 34 => ⟨S_, .i32⟩
  | 35 => ⟨S8192x2, .i32⟩
  | 36 => ⟨S8192x2, .i1⟩
  | 37 => ⟨S_, .i32⟩
  | 38 => ⟨S8192x2, .i32⟩
  | 39 => ⟨S8192x2, .i32⟩
  | 40 => ⟨S8192x2, .i32⟩
  | 41 => ⟨S8192x2, .i32⟩
  | 42 => ⟨S8192x2x1, .i32⟩
  | 43 => ⟨S8192x2x1, .i32⟩
  | 44 => ⟨S8192x2x2, .i32⟩
  | 45 => ⟨S8192x7, .f32⟩
  | 46 => ⟨S8192x2x1, .i32⟩
  | 47 => ⟨S1x1x7, .i32⟩
  | 48 => ⟨S8192x2x7, .i32⟩
  | 49 => ⟨S8192x2x7, .i32⟩
  | 50 => ⟨S8192x2x7, .i1⟩
  | 51 => ⟨S8192x2x7, .f32⟩
  | 52 => ⟨S_, .f32⟩
  | 53 => ⟨S8192x7, .f32⟩
  | 54 => ⟨S_, .f32⟩
  | 55 => ⟨S8192, .f32⟩
  | 56 => ⟨S_, .f32⟩
  | 57 => ⟨S8192, .f32⟩
  | 58 => ⟨S8192, .f32⟩
  | 59 => ⟨S8192x1, .f32⟩
  | 60 => ⟨S8192x7, .f32⟩
  | 61 => ⟨S8192x7, .f32⟩
  | 62 => ⟨S8192x7, .f32⟩
  | 63 => ⟨S_, .f32⟩
  | 64 => ⟨S8192, .f32⟩
  | 65 => ⟨S8192x1, .f32⟩
  | 66 => ⟨S8192x7, .f32⟩
  | 67 => ⟨S8192x7, .f32⟩
  | 68 => ⟨S8192x2, .f32⟩
  | 69 => ⟨S8192x2, .i32⟩
  | 70 => ⟨S_, .f32⟩
  | 71 => ⟨S8192, .f32⟩
  | 72 => ⟨S_, .f32⟩
  | 73 => ⟨S8192, .f32⟩
  | 74 => ⟨S8192, .f32⟩
  | 75 => ⟨S8192x1, .f32⟩
  | 76 => ⟨S8192x2, .f32⟩
  | 77 => ⟨S8192x2, .f32⟩
  | 78 => ⟨S8192x2, .f32⟩
  | 79 => ⟨S_, .f32⟩
  | 80 => ⟨S8192, .f32⟩
  | 81 => ⟨S8192x1, .f32⟩
  | 82 => ⟨S8192x2, .f32⟩
  | 83 => ⟨S8192x2, .f32⟩
  | 84 => ⟨S8192, .i32⟩
  | 85 => ⟨S8192x1, .i32⟩
  | 86 => ⟨S_, .f32⟩
  | 87 => ⟨S8192x8, .f32⟩
  | 88 => ⟨S_, .i32⟩
  | 89 => ⟨S8192x1, .i32⟩
  | 90 => ⟨S8192x1, .i1⟩
  | 91 => ⟨S_, .i32⟩
  | 92 => ⟨S8192x1, .i32⟩
  | 93 => ⟨S8192x1, .i32⟩
  | 94 => ⟨S8192x1, .i32⟩
  | 95 => ⟨S_, .i32⟩
  | 96 => ⟨S8192x2, .i32⟩
  | 97 => ⟨S8192x2, .i1⟩
  | 98 => ⟨S_, .i32⟩
  | 99 => ⟨S8192x2, .i32⟩
  | 100 => ⟨S8192x2, .i32⟩
  | 101 => ⟨S8192x2, .i32⟩
  | 102 => ⟨S8192x2, .i32⟩
  | 103 => ⟨S8192x2x1, .i32⟩
  | 104 => ⟨S8192x2x1, .i32⟩
  | 105 => ⟨S8192x2x2, .i32⟩
  | 106 => ⟨S8192x8, .f32⟩
  | 107 => ⟨S8192x2x1, .i32⟩
  | 108 => ⟨S1x1x8, .i32⟩
  | 109 => ⟨S8192x2x8, .i32⟩
  | 110 => ⟨S8192x2x8, .i32⟩
  | 111 => ⟨S8192x2x8, .i1⟩
  | 112 => ⟨S8192x2x8, .f32⟩
  | 113 => ⟨S_, .f32⟩
  | 114 => ⟨S8192x8, .f32⟩
  | 115 => ⟨S_, .f32⟩
  | 116 => ⟨S8192, .f32⟩
  | 117 => ⟨S_, .f32⟩
  | 118 => ⟨S8192, .f32⟩
  | 119 => ⟨S8192, .f32⟩
  | 120 => ⟨S8192x1, .f32⟩
  | 121 => ⟨S8192x8, .f32⟩
  | 122 => ⟨S8192x8, .f32⟩
  | 123 => ⟨S8192x8, .f32⟩
  | 124 => ⟨S_, .f32⟩
  | 125 => ⟨S8192, .f32⟩
  | 126 => ⟨S8192x1, .f32⟩
  | 127 => ⟨S8192x8, .f32⟩
  | _ => ⟨S8192x1024, .f32⟩

abbrev hbmTy0_4 (i : Nat) : BufTy := match i % 128 with
  | 0 => ⟨S8192x8, .f32⟩
  | 1 => ⟨S1024x1024, .f32⟩
  | 2 => ⟨S8192x1024, .f32⟩
  | 3 => ⟨S1x1024, .f32⟩
  | 4 => ⟨S8192x1024, .f32⟩
  | 5 => ⟨S8192x1024, .f32⟩
  | 6 => ⟨S_, .f32⟩
  | 7 => ⟨S8192x1024, .f32⟩
  | 8 => ⟨S8192x1024, .f32⟩
  | 9 => ⟨S8192x1x1024, .f32⟩
  | 10 => ⟨S8192x1x1, .f32⟩
  | 11 => ⟨S8192x1x1024, .f32⟩
  | 12 => ⟨S8192x1x1024, .f32⟩
  | 13 => ⟨S_, .f32⟩
  | 14 => ⟨S8192x1024, .f32⟩
  | 15 => ⟨S1x1024x1024, .f32⟩
  | 16 => ⟨S1024x1024, .f32⟩
  | 17 => ⟨S1024x1024, .f32⟩
  | 18 => ⟨S8192x1024, .f32⟩
  | 19 => ⟨S1x1024, .f32⟩
  | 20 => ⟨S1024, .f32⟩
  | 21 => ⟨S1x1024, .f32⟩
  | 22 => ⟨S8192x1024, .f32⟩
  | 23 => ⟨S8192x1024, .f32⟩
  | 24 => ⟨S_, .f32⟩
  | 25 => ⟨S8192x1024, .f32⟩
  | 26 => ⟨S8192x1024, .f32⟩
  | 27 => ⟨S8192x1024, .f32⟩
  | 28 => ⟨S8192x1x1024, .f32⟩
  | 29 => ⟨S8192x2x1024, .f32⟩
  | 30 => ⟨S8192x2x1, .f32⟩
  | 31 => ⟨S8192x2x1024, .f32⟩
  | 32 => ⟨S8192x2x1024, .f32⟩
  | 33 => ⟨S_, .f32⟩
  | 34 => ⟨S8192x1024, .f32⟩
  | 35 => ⟨S1x1024x1024, .f32⟩
  | 36 => ⟨S1024x1024, .f32⟩
  | 37 => ⟨S1024x1024, .f32⟩
  | 38 => ⟨S8192x1024, .f32⟩
  | 39 => ⟨S1x1024, .f32⟩
  | 40 => ⟨S1024, .f32⟩
  | 41 => ⟨S1x1024, .f32⟩
  | 42 => ⟨S8192x1024, .f32⟩
  | 43 => ⟨S8192x1024, .f32⟩
  | 44 => ⟨S_, .f32⟩
  | 45 => ⟨S8192x1024, .f32⟩
  | 46 => ⟨S8192x1024, .f32⟩
  | 47 => ⟨S8192x1024, .f32⟩
  | 48 => ⟨S8192x1x1024, .f32⟩
  | 49 => ⟨S8192x3x1024, .f32⟩
  | 50 => ⟨S8192x3x1, .f32⟩
  | 51 => ⟨S8192x3x1024, .f32⟩
  | 52 => ⟨S8192x3x1024, .f32⟩
  | 53 => ⟨S_, .f32⟩
  | 54 => ⟨S8192x1024, .f32⟩
  | 55 => ⟨S1x1024x1024, .f32⟩
  | 56 => ⟨S1024x1024, .f32⟩
  | 57 => ⟨S1024x1024, .f32⟩
  | 58 => ⟨S8192x1024, .f32⟩
  | 59 => ⟨S1x1024, .f32⟩
  | 60 => ⟨S1024, .f32⟩
  | 61 => ⟨S1x1024, .f32⟩
  | 62 => ⟨S8192x1024, .f32⟩
  | 63 => ⟨S8192x1024, .f32⟩
  | 64 => ⟨S_, .f32⟩
  | 65 => ⟨S8192x1024, .f32⟩
  | 66 => ⟨S8192x1024, .f32⟩
  | 67 => ⟨S8192x1024, .f32⟩
  | 68 => ⟨S8192x1x1024, .f32⟩
  | 69 => ⟨S8192x4x1024, .f32⟩
  | 70 => ⟨S8192x4x1, .f32⟩
  | 71 => ⟨S8192x4x1024, .f32⟩
  | 72 => ⟨S8192x4x1024, .f32⟩
  | 73 => ⟨S_, .f32⟩
  | 74 => ⟨S8192x1024, .f32⟩
  | 75 => ⟨S1x1024x1024, .f32⟩
  | 76 => ⟨S1024x1024, .f32⟩
  | 77 => ⟨S1024x1024, .f32⟩
  | 78 => ⟨S8192x1024, .f32⟩
  | 79 => ⟨S1x1024, .f32⟩
  | 80 => ⟨S1024, .f32⟩
  | 81 => ⟨S1x1024, .f32⟩
  | 82 => ⟨S8192x1024, .f32⟩
  | 83 => ⟨S8192x1024, .f32⟩
  | 84 => ⟨S_, .f32⟩
  | 85 => ⟨S8192x1024, .f32⟩
  | 86 => ⟨S8192x1024, .f32⟩
  | 87 => ⟨S8192x1024, .f32⟩
  | 88 => ⟨S8192x1x1024, .f32⟩
  | 89 => ⟨S8192x5x1024, .f32⟩
  | 90 => ⟨S8192x5x1, .f32⟩
  | 91 => ⟨S8192x5x1024, .f32⟩
  | 92 => ⟨S8192x5x1024, .f32⟩
  | 93 => ⟨S_, .f32⟩
  | 94 => ⟨S8192x1024, .f32⟩
  | 95 => ⟨S1x1024x1024, .f32⟩
  | 96 => ⟨S1024x1024, .f32⟩
  | 97 => ⟨S1024x1024, .f32⟩
  | 98 => ⟨S8192x1024, .f32⟩
  | 99 => ⟨S1x1024, .f32⟩
  | 100 => ⟨S1024, .f32⟩
  | 101 => ⟨S1x1024, .f32⟩
  | 102 => ⟨S8192x1024, .f32⟩
  | 103 => ⟨S8192x1024, .f32⟩
  | 104 => ⟨S_, .f32⟩
  | 105 => ⟨S8192x1024, .f32⟩
  | 106 => ⟨S8192x1024, .f32⟩
  | 107 => ⟨S8192x1024, .f32⟩
  | 108 => ⟨S8192x1x1024, .f32⟩
  | 109 => ⟨S8192x6x1024, .f32⟩
  | 110 => ⟨S8192x6x1, .f32⟩
  | 111 => ⟨S8192x6x1024, .f32⟩
  | 112 => ⟨S8192x6x1024, .f32⟩
  | 113 => ⟨S_, .f32⟩
  | 114 => ⟨S8192x1024, .f32⟩
  | 115 => ⟨S1x1024x1024, .f32⟩
  | 116 => ⟨S1024x1024, .f32⟩
  | 117 => ⟨S1024x1024, .f32⟩
  | 118 => ⟨S8192x1024, .f32⟩
  | 119 => ⟨S1x1024, .f32⟩
  | 120 => ⟨S1024, .f32⟩
  | 121 => ⟨S1x1024, .f32⟩
  | 122 => ⟨S8192x1024, .f32⟩
  | 123 => ⟨S8192x1024, .f32⟩
  | 124 => ⟨S_, .f32⟩
  | 125 => ⟨S8192x1024, .f32⟩
  | 126 => ⟨S8192x1024, .f32⟩
  | 127 => ⟨S8192x1024, .f32⟩
  | _ => ⟨S8192x1024, .f32⟩

abbrev hbmTy0_5 (i : Nat) : BufTy := match i % 128 with
  | 0 => ⟨S8192x1x1024, .f32⟩
  | 1 => ⟨S8192x7x1024, .f32⟩
  | 2 => ⟨S8192x7x1, .f32⟩
  | 3 => ⟨S8192x7x1024, .f32⟩
  | 4 => ⟨S8192x7x1024, .f32⟩
  | 5 => ⟨S_, .f32⟩
  | 6 => ⟨S8192x1024, .f32⟩
  | 7 => ⟨S1x1024x1024, .f32⟩
  | 8 => ⟨S1024x1024, .f32⟩
  | 9 => ⟨S1024x1024, .f32⟩
  | 10 => ⟨S8192x1024, .f32⟩
  | 11 => ⟨S1x1024, .f32⟩
  | 12 => ⟨S1024, .f32⟩
  | 13 => ⟨S1x1024, .f32⟩
  | 14 => ⟨S8192x1024, .f32⟩
  | 15 => ⟨S8192x1024, .f32⟩
  | 16 => ⟨S_, .f32⟩
  | 17 => ⟨S8192x1024, .f32⟩
  | 18 => ⟨S8192x1024, .f32⟩
  | 19 => ⟨S8192x1024, .f32⟩
  | 20 => ⟨S8192x1x1024, .f32⟩
  | 21 => ⟨S8192x8x1024, .f32⟩
  | 22 => ⟨S8192x8x1, .f32⟩
  | 23 => ⟨S8192x8x1024, .f32⟩
  | 24 => ⟨S8192x8x1024, .f32⟩
  | 25 => ⟨S_, .f32⟩
  | 26 => ⟨S8192x1024, .f32⟩
  | 27 => ⟨S8192x36, .f32⟩
  | 28 => ⟨S8192x36, .f32⟩
  | 29 => ⟨S8192x36, .f32⟩
  | _ => ⟨S8192x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_values : Ref sig .tc := ⟨.hbm, 31, rfl⟩
abbrev main_indices : Ref sig .tc := ⟨.hbm, 32, rfl⟩
abbrev main_cst : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_1 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_2 : Ref sig .tc := ⟨.hbm, 47, rfl⟩
abbrev main_v30 : Ref sig .tc := ⟨.hbm, 48, rfl⟩
abbrev main_c : Ref sig .tc := ⟨.hbm, 49, rfl⟩
abbrev main_v31 : Ref sig .tc := ⟨.hbm, 50, rfl⟩
abbrev main_v32 : Ref sig .tc := ⟨.hbm, 51, rfl⟩
abbrev main_c_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_c_4 : Ref sig .tc := ⟨.hbm, 56, rfl⟩
abbrev main_v36 : Ref sig .tc := ⟨.hbm, 57, rfl⟩
abbrev main_v37 : Ref sig .tc := ⟨.hbm, 58, rfl⟩
abbrev main_c_5 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_call1_v0 : Ref sig .tc := ⟨.hbm, 67, rfl⟩
abbrev main_call1_v1 : Ref sig .tc := ⟨.hbm, 68, rfl⟩
abbrev main_call1_v2 : Ref sig .tc := ⟨.hbm, 69, rfl⟩
abbrev main_call1_v3 : Ref sig .tc := ⟨.hbm, 70, rfl⟩
abbrev main_v45 : Ref sig .tc := ⟨.hbm, 71, rfl⟩
abbrev main_cst_6 : Ref sig .tc := ⟨.hbm, 72, rfl⟩
abbrev main_v46 : Ref sig .tc := ⟨.hbm, 73, rfl⟩
abbrev main_cst_7 : Ref sig .tc := ⟨.hbm, 74, rfl⟩
abbrev main_v47 : Ref sig .tc := ⟨.hbm, 75, rfl⟩
abbrev main_cst_8 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_9 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_values_10 : Ref sig .tc := ⟨.hbm, 86, rfl⟩
abbrev main_indices_11 : Ref sig .tc := ⟨.hbm, 87, rfl⟩
abbrev main_cst_12 : Ref sig .tc := ⟨.hbm, 88, rfl⟩
abbrev main_v56 : Ref sig .tc := ⟨.hbm, 89, rfl⟩
abbrev main_cst_13 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_14 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_cst_15 : Ref sig .tc := ⟨.hbm, 104, rfl⟩
abbrev main_v69 : Ref sig .tc := ⟨.hbm, 105, rfl⟩
abbrev main_c_16 : Ref sig .tc := ⟨.hbm, 106, rfl⟩
abbrev main_v70 : Ref sig .tc := ⟨.hbm, 107, rfl⟩
abbrev main_v71 : Ref sig .tc := ⟨.hbm, 108, rfl⟩
abbrev main_c_17 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_c_18 : Ref sig .tc := ⟨.hbm, 113, rfl⟩
abbrev main_v75 : Ref sig .tc := ⟨.hbm, 114, rfl⟩
abbrev main_v76 : Ref sig .tc := ⟨.hbm, 115, rfl⟩
abbrev main_c_19 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_call2_v3 : Ref sig .tc := ⟨.hbm, 128, rfl⟩
abbrev main_call2_v4 : Ref sig .tc := ⟨.hbm, 129, rfl⟩
abbrev main_v85 : Ref sig .tc := ⟨.hbm, 130, rfl⟩
abbrev main_cst_20 : Ref sig .tc := ⟨.hbm, 131, rfl⟩
abbrev main_v86 : Ref sig .tc := ⟨.hbm, 132, rfl⟩
abbrev main_cst_21 : Ref sig .tc := ⟨.hbm, 133, rfl⟩
abbrev main_v87 : Ref sig .tc := ⟨.hbm, 134, rfl⟩
abbrev main_cst_22 : Ref sig .tc := ⟨.hbm, 135, rfl⟩
abbrev main_v88 : Ref sig .tc := ⟨.hbm, 136, rfl⟩
abbrev main_v89 : Ref sig .tc := ⟨.hbm, 137, rfl⟩
abbrev main_v90 : Ref sig .tc := ⟨.hbm, 138, rfl⟩
abbrev main_v91 : Ref sig .tc := ⟨.hbm, 139, rfl⟩
abbrev main_v92 : Ref sig .tc := ⟨.hbm, 140, rfl⟩
abbrev main_v93 : Ref sig .tc := ⟨.hbm, 141, rfl⟩
abbrev main_cst_23 : Ref sig .tc := ⟨.hbm, 142, rfl⟩
abbrev main_v94 : Ref sig .tc := ⟨.hbm, 143, rfl⟩
abbrev main_v95 : Ref sig .tc := ⟨.hbm, 144, rfl⟩
abbrev main_v96 : Ref sig .tc := ⟨.hbm, 145, rfl⟩
abbrev main_v97 : Ref sig .tc := ⟨.hbm, 146, rfl⟩
abbrev main_values_24 : Ref sig .tc := ⟨.hbm, 147, rfl⟩
abbrev main_indices_25 : Ref sig .tc := ⟨.hbm, 148, rfl⟩
abbrev main_cst_26 : Ref sig .tc := ⟨.hbm, 149, rfl⟩
abbrev main_v98 : Ref sig .tc := ⟨.hbm, 150, rfl⟩
abbrev main_cst_27 : Ref sig .tc := ⟨.hbm, 151, rfl⟩
abbrev main_v99 : Ref sig .tc := ⟨.hbm, 152, rfl⟩
abbrev main_v100 : Ref sig .tc := ⟨.hbm, 153, rfl⟩
abbrev main_v101 : Ref sig .tc := ⟨.hbm, 154, rfl⟩
abbrev main_v102 : Ref sig .tc := ⟨.hbm, 155, rfl⟩
abbrev main_v103 : Ref sig .tc := ⟨.hbm, 156, rfl⟩
abbrev main_v104 : Ref sig .tc := ⟨.hbm, 157, rfl⟩
abbrev main_cst_28 : Ref sig .tc := ⟨.hbm, 158, rfl⟩
abbrev main_v105 : Ref sig .tc := ⟨.hbm, 159, rfl⟩
abbrev main_v106 : Ref sig .tc := ⟨.hbm, 160, rfl⟩
abbrev main_v107 : Ref sig .tc := ⟨.hbm, 161, rfl⟩
abbrev main_v108 : Ref sig .tc := ⟨.hbm, 162, rfl⟩
abbrev main_v109 : Ref sig .tc := ⟨.hbm, 163, rfl⟩
abbrev main_v110 : Ref sig .tc := ⟨.hbm, 164, rfl⟩
abbrev main_cst_29 : Ref sig .tc := ⟨.hbm, 165, rfl⟩
abbrev main_v111 : Ref sig .tc := ⟨.hbm, 166, rfl⟩
abbrev main_c_30 : Ref sig .tc := ⟨.hbm, 167, rfl⟩
abbrev main_v112 : Ref sig .tc := ⟨.hbm, 168, rfl⟩
abbrev main_v113 : Ref sig .tc := ⟨.hbm, 169, rfl⟩
abbrev main_c_31 : Ref sig .tc := ⟨.hbm, 170, rfl⟩
abbrev main_v114 : Ref sig .tc := ⟨.hbm, 171, rfl⟩
abbrev main_v115 : Ref sig .tc := ⟨.hbm, 172, rfl⟩
abbrev main_v116 : Ref sig .tc := ⟨.hbm, 173, rfl⟩
abbrev main_c_32 : Ref sig .tc := ⟨.hbm, 174, rfl⟩
abbrev main_v117 : Ref sig .tc := ⟨.hbm, 175, rfl⟩
abbrev main_v118 : Ref sig .tc := ⟨.hbm, 176, rfl⟩
abbrev main_c_33 : Ref sig .tc := ⟨.hbm, 177, rfl⟩
abbrev main_v119 : Ref sig .tc := ⟨.hbm, 178, rfl⟩
abbrev main_v120 : Ref sig .tc := ⟨.hbm, 179, rfl⟩
abbrev main_v121 : Ref sig .tc := ⟨.hbm, 180, rfl⟩
abbrev main_v122 : Ref sig .tc := ⟨.hbm, 181, rfl⟩
abbrev main_v123 : Ref sig .tc := ⟨.hbm, 182, rfl⟩
abbrev main_v124 : Ref sig .tc := ⟨.hbm, 183, rfl⟩
abbrev main_v125 : Ref sig .tc := ⟨.hbm, 184, rfl⟩
abbrev main_v126 : Ref sig .tc := ⟨.hbm, 185, rfl⟩
abbrev main_call3_v0 : Ref sig .tc := ⟨.hbm, 186, rfl⟩
abbrev main_call3_v1 : Ref sig .tc := ⟨.hbm, 187, rfl⟩
abbrev main_call3_v2 : Ref sig .tc := ⟨.hbm, 188, rfl⟩
abbrev main_call3_v3 : Ref sig .tc := ⟨.hbm, 189, rfl⟩
abbrev main_call3_v4 : Ref sig .tc := ⟨.hbm, 190, rfl⟩
abbrev main_v127 : Ref sig .tc := ⟨.hbm, 191, rfl⟩
abbrev main_cst_34 : Ref sig .tc := ⟨.hbm, 192, rfl⟩
abbrev main_v128 : Ref sig .tc := ⟨.hbm, 193, rfl⟩
abbrev main_cst_35 : Ref sig .tc := ⟨.hbm, 194, rfl⟩
abbrev main_v129 : Ref sig .tc := ⟨.hbm, 195, rfl⟩
abbrev main_cst_36 : Ref sig .tc := ⟨.hbm, 196, rfl⟩
abbrev main_v130 : Ref sig .tc := ⟨.hbm, 197, rfl⟩
abbrev main_v131 : Ref sig .tc := ⟨.hbm, 198, rfl⟩
abbrev main_v132 : Ref sig .tc := ⟨.hbm, 199, rfl⟩
abbrev main_v133 : Ref sig .tc := ⟨.hbm, 200, rfl⟩
abbrev main_v134 : Ref sig .tc := ⟨.hbm, 201, rfl⟩
abbrev main_v135 : Ref sig .tc := ⟨.hbm, 202, rfl⟩
abbrev main_cst_37 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_v139 : Ref sig .tc := ⟨.hbm, 207, rfl⟩
abbrev main_values_38 : Ref sig .tc := ⟨.hbm, 208, rfl⟩
abbrev main_indices_39 : Ref sig .tc := ⟨.hbm, 209, rfl⟩
abbrev main_cst_40 : Ref sig .tc := ⟨.hbm, 210, rfl⟩
abbrev main_v140 : Ref sig .tc := ⟨.hbm, 211, rfl⟩
abbrev main_cst_41 : Ref sig .tc := ⟨.hbm, 212, rfl⟩
abbrev main_v141 : Ref sig .tc := ⟨.hbm, 213, rfl⟩
abbrev main_v142 : Ref sig .tc := ⟨.hbm, 214, rfl⟩
abbrev main_v143 : Ref sig .tc := ⟨.hbm, 215, rfl⟩
abbrev main_v144 : Ref sig .tc := ⟨.hbm, 216, rfl⟩
abbrev main_v145 : Ref sig .tc := ⟨.hbm, 217, rfl⟩
abbrev main_v146 : Ref sig .tc := ⟨.hbm, 218, rfl⟩
abbrev main_cst_42 : Ref sig .tc := ⟨.hbm, 219, rfl⟩
abbrev main_v147 : Ref sig .tc := ⟨.hbm, 220, rfl⟩
abbrev main_v148 : Ref sig .tc := ⟨.hbm, 221, rfl⟩
abbrev main_v149 : Ref sig .tc := ⟨.hbm, 222, rfl⟩
abbrev main_v150 : Ref sig .tc := ⟨.hbm, 223, rfl⟩
abbrev main_v151 : Ref sig .tc := ⟨.hbm, 224, rfl⟩
abbrev main_v152 : Ref sig .tc := ⟨.hbm, 225, rfl⟩
abbrev main_cst_43 : Ref sig .tc := ⟨.hbm, 226, rfl⟩
abbrev main_v153 : Ref sig .tc := ⟨.hbm, 227, rfl⟩
abbrev main_c_44 : Ref sig .tc := ⟨.hbm, 228, rfl⟩
abbrev main_v154 : Ref sig .tc := ⟨.hbm, 229, rfl⟩
abbrev main_v155 : Ref sig .tc := ⟨.hbm, 230, rfl⟩
abbrev main_c_45 : Ref sig .tc := ⟨.hbm, 231, rfl⟩
abbrev main_v156 : Ref sig .tc := ⟨.hbm, 232, rfl⟩
abbrev main_v157 : Ref sig .tc := ⟨.hbm, 233, rfl⟩
abbrev main_v158 : Ref sig .tc := ⟨.hbm, 234, rfl⟩
abbrev main_c_46 : Ref sig .tc := ⟨.hbm, 235, rfl⟩
abbrev main_v159 : Ref sig .tc := ⟨.hbm, 236, rfl⟩
abbrev main_v160 : Ref sig .tc := ⟨.hbm, 237, rfl⟩
abbrev main_c_47 : Ref sig .tc := ⟨.hbm, 238, rfl⟩
abbrev main_v161 : Ref sig .tc := ⟨.hbm, 239, rfl⟩
abbrev main_v162 : Ref sig .tc := ⟨.hbm, 240, rfl⟩
abbrev main_v163 : Ref sig .tc := ⟨.hbm, 241, rfl⟩
abbrev main_v164 : Ref sig .tc := ⟨.hbm, 242, rfl⟩
abbrev main_v165 : Ref sig .tc := ⟨.hbm, 243, rfl⟩
abbrev main_v166 : Ref sig .tc := ⟨.hbm, 244, rfl⟩
abbrev main_v167 : Ref sig .tc := ⟨.hbm, 245, rfl⟩
abbrev main_v168 : Ref sig .tc := ⟨.hbm, 246, rfl⟩
abbrev main_call4_v0 : Ref sig .tc := ⟨.hbm, 247, rfl⟩
abbrev main_call4_v1 : Ref sig .tc := ⟨.hbm, 248, rfl⟩
abbrev main_call4_v2 : Ref sig .tc := ⟨.hbm, 249, rfl⟩
abbrev main_call4_v3 : Ref sig .tc := ⟨.hbm, 250, rfl⟩
abbrev main_call4_v4 : Ref sig .tc := ⟨.hbm, 251, rfl⟩
abbrev main_v169 : Ref sig .tc := ⟨.hbm, 252, rfl⟩
abbrev main_cst_48 : Ref sig .tc := ⟨.hbm, 253, rfl⟩
abbrev main_v170 : Ref sig .tc := ⟨.hbm, 254, rfl⟩
abbrev main_cst_49 : Ref sig .tc := ⟨.hbm, 255, rfl⟩
abbrev main_v171 : Ref sig .tc := ⟨.hbm, 256, rfl⟩
abbrev main_cst_50 : Ref sig .tc := ⟨.hbm, 257, rfl⟩
abbrev main_v172 : Ref sig .tc := ⟨.hbm, 258, rfl⟩
abbrev main_v173 : Ref sig .tc := ⟨.hbm, 259, rfl⟩
abbrev main_v174 : Ref sig .tc := ⟨.hbm, 260, rfl⟩
abbrev main_v175 : Ref sig .tc := ⟨.hbm, 261, rfl⟩
abbrev main_v176 : Ref sig .tc := ⟨.hbm, 262, rfl⟩
abbrev main_v177 : Ref sig .tc := ⟨.hbm, 263, rfl⟩
abbrev main_cst_51 : Ref sig .tc := ⟨.hbm, 264, rfl⟩
abbrev main_v178 : Ref sig .tc := ⟨.hbm, 265, rfl⟩
abbrev main_v179 : Ref sig .tc := ⟨.hbm, 266, rfl⟩
abbrev main_v180 : Ref sig .tc := ⟨.hbm, 267, rfl⟩
abbrev main_v181 : Ref sig .tc := ⟨.hbm, 268, rfl⟩
abbrev main_values_52 : Ref sig .tc := ⟨.hbm, 269, rfl⟩
abbrev main_indices_53 : Ref sig .tc := ⟨.hbm, 270, rfl⟩
abbrev main_cst_54 : Ref sig .tc := ⟨.hbm, 271, rfl⟩
abbrev main_v182 : Ref sig .tc := ⟨.hbm, 272, rfl⟩
abbrev main_cst_55 : Ref sig .tc := ⟨.hbm, 273, rfl⟩
abbrev main_v183 : Ref sig .tc := ⟨.hbm, 274, rfl⟩
abbrev main_v184 : Ref sig .tc := ⟨.hbm, 275, rfl⟩
abbrev main_v185 : Ref sig .tc := ⟨.hbm, 276, rfl⟩
abbrev main_v186 : Ref sig .tc := ⟨.hbm, 277, rfl⟩
abbrev main_v187 : Ref sig .tc := ⟨.hbm, 278, rfl⟩
abbrev main_v188 : Ref sig .tc := ⟨.hbm, 279, rfl⟩
abbrev main_cst_56 : Ref sig .tc := ⟨.hbm, 280, rfl⟩
abbrev main_v189 : Ref sig .tc := ⟨.hbm, 281, rfl⟩
abbrev main_v190 : Ref sig .tc := ⟨.hbm, 282, rfl⟩
abbrev main_v191 : Ref sig .tc := ⟨.hbm, 283, rfl⟩
abbrev main_v192 : Ref sig .tc := ⟨.hbm, 284, rfl⟩
abbrev main_v193 : Ref sig .tc := ⟨.hbm, 285, rfl⟩
abbrev main_v194 : Ref sig .tc := ⟨.hbm, 286, rfl⟩
abbrev main_cst_57 : Ref sig .tc := ⟨.hbm, 287, rfl⟩
abbrev main_v195 : Ref sig .tc := ⟨.hbm, 288, rfl⟩
abbrev main_c_58 : Ref sig .tc := ⟨.hbm, 289, rfl⟩
abbrev main_v196 : Ref sig .tc := ⟨.hbm, 290, rfl⟩
abbrev main_v197 : Ref sig .tc := ⟨.hbm, 291, rfl⟩
abbrev main_c_59 : Ref sig .tc := ⟨.hbm, 292, rfl⟩
abbrev main_v198 : Ref sig .tc := ⟨.hbm, 293, rfl⟩
abbrev main_v199 : Ref sig .tc := ⟨.hbm, 294, rfl⟩
abbrev main_v200 : Ref sig .tc := ⟨.hbm, 295, rfl⟩
abbrev main_c_60 : Ref sig .tc := ⟨.hbm, 296, rfl⟩
abbrev main_v201 : Ref sig .tc := ⟨.hbm, 297, rfl⟩
abbrev main_v202 : Ref sig .tc := ⟨.hbm, 298, rfl⟩
abbrev main_c_61 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_v206 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_v210 : Ref sig .tc := ⟨.hbm, 307, rfl⟩
abbrev main_call5_v0 : Ref sig .tc := ⟨.hbm, 308, rfl⟩
abbrev main_call5_v1 : Ref sig .tc := ⟨.hbm, 309, rfl⟩
abbrev main_call5_v2 : Ref sig .tc := ⟨.hbm, 310, rfl⟩
abbrev main_call5_v3 : Ref sig .tc := ⟨.hbm, 311, rfl⟩
abbrev main_call5_v4 : Ref sig .tc := ⟨.hbm, 312, rfl⟩
abbrev main_v211 : Ref sig .tc := ⟨.hbm, 313, rfl⟩
abbrev main_cst_62 : Ref sig .tc := ⟨.hbm, 314, rfl⟩
abbrev main_v212 : Ref sig .tc := ⟨.hbm, 315, rfl⟩
abbrev main_cst_63 : Ref sig .tc := ⟨.hbm, 316, rfl⟩
abbrev main_v213 : Ref sig .tc := ⟨.hbm, 317, rfl⟩
abbrev main_cst_64 : Ref sig .tc := ⟨.hbm, 318, rfl⟩
abbrev main_v214 : Ref sig .tc := ⟨.hbm, 319, rfl⟩
abbrev main_v215 : Ref sig .tc := ⟨.hbm, 320, rfl⟩
abbrev main_v216 : Ref sig .tc := ⟨.hbm, 321, rfl⟩
abbrev main_v217 : Ref sig .tc := ⟨.hbm, 322, rfl⟩
abbrev main_v218 : Ref sig .tc := ⟨.hbm, 323, rfl⟩
abbrev main_v219 : Ref sig .tc := ⟨.hbm, 324, rfl⟩
abbrev main_cst_65 : Ref sig .tc := ⟨.hbm, 325, rfl⟩
abbrev main_v220 : Ref sig .tc := ⟨.hbm, 326, rfl⟩
abbrev main_v221 : Ref sig .tc := ⟨.hbm, 327, rfl⟩
abbrev main_v222 : Ref sig .tc := ⟨.hbm, 328, rfl⟩
abbrev main_v223 : Ref sig .tc := ⟨.hbm, 329, rfl⟩
abbrev main_values_66 : Ref sig .tc := ⟨.hbm, 330, rfl⟩
abbrev main_indices_67 : Ref sig .tc := ⟨.hbm, 331, rfl⟩
abbrev main_cst_68 : Ref sig .tc := ⟨.hbm, 332, rfl⟩
abbrev main_v224 : Ref sig .tc := ⟨.hbm, 333, rfl⟩
abbrev main_cst_69 : Ref sig .tc := ⟨.hbm, 334, rfl⟩
abbrev main_v225 : Ref sig .tc := ⟨.hbm, 335, rfl⟩
abbrev main_v226 : Ref sig .tc := ⟨.hbm, 336, rfl⟩
abbrev main_v227 : Ref sig .tc := ⟨.hbm, 337, rfl⟩
abbrev main_v228 : Ref sig .tc := ⟨.hbm, 338, rfl⟩
abbrev main_v229 : Ref sig .tc := ⟨.hbm, 339, rfl⟩
abbrev main_v230 : Ref sig .tc := ⟨.hbm, 340, rfl⟩
abbrev main_cst_70 : Ref sig .tc := ⟨.hbm, 341, rfl⟩
abbrev main_v231 : Ref sig .tc := ⟨.hbm, 342, rfl⟩
abbrev main_v232 : Ref sig .tc := ⟨.hbm, 343, rfl⟩
abbrev main_v233 : Ref sig .tc := ⟨.hbm, 344, rfl⟩
abbrev main_v234 : Ref sig .tc := ⟨.hbm, 345, rfl⟩
abbrev main_v235 : Ref sig .tc := ⟨.hbm, 346, rfl⟩
abbrev main_v236 : Ref sig .tc := ⟨.hbm, 347, rfl⟩
abbrev main_cst_71 : Ref sig .tc := ⟨.hbm, 348, rfl⟩
abbrev main_v237 : Ref sig .tc := ⟨.hbm, 349, rfl⟩
abbrev main_c_72 : Ref sig .tc := ⟨.hbm, 350, rfl⟩
abbrev main_v238 : Ref sig .tc := ⟨.hbm, 351, rfl⟩
abbrev main_v239 : Ref sig .tc := ⟨.hbm, 352, rfl⟩
abbrev main_c_73 : Ref sig .tc := ⟨.hbm, 353, rfl⟩
abbrev main_v240 : Ref sig .tc := ⟨.hbm, 354, rfl⟩
abbrev main_v241 : Ref sig .tc := ⟨.hbm, 355, rfl⟩
abbrev main_v242 : Ref sig .tc := ⟨.hbm, 356, rfl⟩
abbrev main_c_74 : Ref sig .tc := ⟨.hbm, 357, rfl⟩
abbrev main_v243 : Ref sig .tc := ⟨.hbm, 358, rfl⟩
abbrev main_v244 : Ref sig .tc := ⟨.hbm, 359, rfl⟩
abbrev main_c_75 : Ref sig .tc := ⟨.hbm, 360, rfl⟩
abbrev main_v245 : Ref sig .tc := ⟨.hbm, 361, rfl⟩
abbrev main_v246 : Ref sig .tc := ⟨.hbm, 362, rfl⟩
abbrev main_v247 : Ref sig .tc := ⟨.hbm, 363, rfl⟩
abbrev main_v248 : Ref sig .tc := ⟨.hbm, 364, rfl⟩
abbrev main_v249 : Ref sig .tc := ⟨.hbm, 365, rfl⟩
abbrev main_v250 : Ref sig .tc := ⟨.hbm, 366, rfl⟩
abbrev main_v251 : Ref sig .tc := ⟨.hbm, 367, rfl⟩
abbrev main_v252 : Ref sig .tc := ⟨.hbm, 368, rfl⟩
abbrev main_call6_v0 : Ref sig .tc := ⟨.hbm, 369, rfl⟩
abbrev main_call6_v1 : Ref sig .tc := ⟨.hbm, 370, rfl⟩
abbrev main_call6_v2 : Ref sig .tc := ⟨.hbm, 371, rfl⟩
abbrev main_call6_v3 : Ref sig .tc := ⟨.hbm, 372, rfl⟩
abbrev main_call6_v4 : Ref sig .tc := ⟨.hbm, 373, rfl⟩
abbrev main_v253 : Ref sig .tc := ⟨.hbm, 374, rfl⟩
abbrev main_cst_76 : Ref sig .tc := ⟨.hbm, 375, rfl⟩
abbrev main_v254 : Ref sig .tc := ⟨.hbm, 376, rfl⟩
abbrev main_cst_77 : Ref sig .tc := ⟨.hbm, 377, rfl⟩
abbrev main_v255 : Ref sig .tc := ⟨.hbm, 378, rfl⟩
abbrev main_cst_78 : Ref sig .tc := ⟨.hbm, 379, rfl⟩
abbrev main_v256 : Ref sig .tc := ⟨.hbm, 380, rfl⟩
abbrev main_v257 : Ref sig .tc := ⟨.hbm, 381, rfl⟩
abbrev main_v258 : Ref sig .tc := ⟨.hbm, 382, rfl⟩
abbrev main_v259 : Ref sig .tc := ⟨.hbm, 383, rfl⟩
abbrev main_v260 : Ref sig .tc := ⟨.hbm, 384, rfl⟩
abbrev main_v261 : Ref sig .tc := ⟨.hbm, 385, rfl⟩
abbrev main_cst_79 : Ref sig .tc := ⟨.hbm, 386, rfl⟩
abbrev main_v262 : Ref sig .tc := ⟨.hbm, 387, rfl⟩
abbrev main_v263 : Ref sig .tc := ⟨.hbm, 388, rfl⟩
abbrev main_v264 : Ref sig .tc := ⟨.hbm, 389, rfl⟩
abbrev main_v265 : Ref sig .tc := ⟨.hbm, 390, rfl⟩
abbrev main_values_80 : Ref sig .tc := ⟨.hbm, 391, rfl⟩
abbrev main_indices_81 : Ref sig .tc := ⟨.hbm, 392, rfl⟩
abbrev main_cst_82 : Ref sig .tc := ⟨.hbm, 393, rfl⟩
abbrev main_v266 : Ref sig .tc := ⟨.hbm, 394, rfl⟩
abbrev main_cst_83 : Ref sig .tc := ⟨.hbm, 395, rfl⟩
abbrev main_v267 : Ref sig .tc := ⟨.hbm, 396, rfl⟩
abbrev main_v268 : Ref sig .tc := ⟨.hbm, 397, rfl⟩
abbrev main_v269 : Ref sig .tc := ⟨.hbm, 398, rfl⟩
abbrev main_v270 : Ref sig .tc := ⟨.hbm, 399, rfl⟩
abbrev main_v271 : Ref sig .tc := ⟨.hbm, 400, rfl⟩
abbrev main_v272 : Ref sig .tc := ⟨.hbm, 401, rfl⟩
abbrev main_cst_84 : Ref sig .tc := ⟨.hbm, 402, rfl⟩
abbrev main_v273 : Ref sig .tc := ⟨.hbm, 403, rfl⟩
abbrev main_v274 : Ref sig .tc := ⟨.hbm, 404, rfl⟩
abbrev main_v275 : Ref sig .tc := ⟨.hbm, 405, rfl⟩
abbrev main_v276 : Ref sig .tc := ⟨.hbm, 406, rfl⟩
abbrev main_v277 : Ref sig .tc := ⟨.hbm, 407, rfl⟩
abbrev main_v278 : Ref sig .tc := ⟨.hbm, 408, rfl⟩
abbrev main_cst_85 : Ref sig .tc := ⟨.hbm, 409, rfl⟩
abbrev main_v279 : Ref sig .tc := ⟨.hbm, 410, rfl⟩
abbrev main_c_86 : Ref sig .tc := ⟨.hbm, 411, rfl⟩
abbrev main_v280 : Ref sig .tc := ⟨.hbm, 412, rfl⟩
abbrev main_v281 : Ref sig .tc := ⟨.hbm, 413, rfl⟩
abbrev main_c_87 : Ref sig .tc := ⟨.hbm, 414, rfl⟩
abbrev main_v282 : Ref sig .tc := ⟨.hbm, 415, rfl⟩
abbrev main_v283 : Ref sig .tc := ⟨.hbm, 416, rfl⟩
abbrev main_v284 : Ref sig .tc := ⟨.hbm, 417, rfl⟩
abbrev main_c_88 : Ref sig .tc := ⟨.hbm, 418, rfl⟩
abbrev main_v285 : Ref sig .tc := ⟨.hbm, 419, rfl⟩
abbrev main_v286 : Ref sig .tc := ⟨.hbm, 420, rfl⟩
abbrev main_c_89 : Ref sig .tc := ⟨.hbm, 421, rfl⟩
abbrev main_v287 : Ref sig .tc := ⟨.hbm, 422, rfl⟩
abbrev main_v288 : Ref sig .tc := ⟨.hbm, 423, rfl⟩
abbrev main_v289 : Ref sig .tc := ⟨.hbm, 424, rfl⟩
abbrev main_v290 : Ref sig .tc := ⟨.hbm, 425, rfl⟩
abbrev main_v291 : Ref sig .tc := ⟨.hbm, 426, rfl⟩
abbrev main_v292 : Ref sig .tc := ⟨.hbm, 427, rfl⟩
abbrev main_v293 : Ref sig .tc := ⟨.hbm, 428, rfl⟩
abbrev main_v294 : Ref sig .tc := ⟨.hbm, 429, rfl⟩
abbrev main_call7_v0 : Ref sig .tc := ⟨.hbm, 430, rfl⟩
abbrev main_call7_v1 : Ref sig .tc := ⟨.hbm, 431, rfl⟩
abbrev main_call7_v2 : Ref sig .tc := ⟨.hbm, 432, rfl⟩
abbrev main_call7_v3 : Ref sig .tc := ⟨.hbm, 433, rfl⟩
abbrev main_call7_v4 : Ref sig .tc := ⟨.hbm, 434, rfl⟩
abbrev main_v295 : Ref sig .tc := ⟨.hbm, 435, rfl⟩
abbrev main_cst_90 : Ref sig .tc := ⟨.hbm, 436, rfl⟩
abbrev main_v296 : Ref sig .tc := ⟨.hbm, 437, rfl⟩
abbrev main_cst_91 : Ref sig .tc := ⟨.hbm, 438, rfl⟩
abbrev main_v297 : Ref sig .tc := ⟨.hbm, 439, rfl⟩
abbrev main_cst_92 : Ref sig .tc := ⟨.hbm, 440, rfl⟩
abbrev main_v298 : Ref sig .tc := ⟨.hbm, 441, rfl⟩
abbrev main_v299 : Ref sig .tc := ⟨.hbm, 442, rfl⟩
abbrev main_v300 : Ref sig .tc := ⟨.hbm, 443, rfl⟩
abbrev main_v301 : Ref sig .tc := ⟨.hbm, 444, rfl⟩
abbrev main_v302 : Ref sig .tc := ⟨.hbm, 445, rfl⟩
abbrev main_v303 : Ref sig .tc := ⟨.hbm, 446, rfl⟩
abbrev main_cst_93 : Ref sig .tc := ⟨.hbm, 447, rfl⟩
abbrev main_v304 : Ref sig .tc := ⟨.hbm, 448, rfl⟩
abbrev main_v305 : Ref sig .tc := ⟨.hbm, 449, rfl⟩
abbrev main_v306 : Ref sig .tc := ⟨.hbm, 450, rfl⟩
abbrev main_v307 : Ref sig .tc := ⟨.hbm, 451, rfl⟩
abbrev main_values_94 : Ref sig .tc := ⟨.hbm, 452, rfl⟩
abbrev main_indices_95 : Ref sig .tc := ⟨.hbm, 453, rfl⟩
abbrev main_cst_96 : Ref sig .tc := ⟨.hbm, 454, rfl⟩
abbrev main_v308 : Ref sig .tc := ⟨.hbm, 455, rfl⟩
abbrev main_cst_97 : Ref sig .tc := ⟨.hbm, 456, rfl⟩
abbrev main_v309 : Ref sig .tc := ⟨.hbm, 457, rfl⟩
abbrev main_v310 : Ref sig .tc := ⟨.hbm, 458, rfl⟩
abbrev main_v311 : Ref sig .tc := ⟨.hbm, 459, rfl⟩
abbrev main_v312 : Ref sig .tc := ⟨.hbm, 460, rfl⟩
abbrev main_v313 : Ref sig .tc := ⟨.hbm, 461, rfl⟩
abbrev main_v314 : Ref sig .tc := ⟨.hbm, 462, rfl⟩
abbrev main_cst_98 : Ref sig .tc := ⟨.hbm, 463, rfl⟩
abbrev main_v315 : Ref sig .tc := ⟨.hbm, 464, rfl⟩
abbrev main_v316 : Ref sig .tc := ⟨.hbm, 465, rfl⟩
abbrev main_v317 : Ref sig .tc := ⟨.hbm, 466, rfl⟩
abbrev main_v318 : Ref sig .tc := ⟨.hbm, 467, rfl⟩
abbrev main_v319 : Ref sig .tc := ⟨.hbm, 468, rfl⟩
abbrev main_v320 : Ref sig .tc := ⟨.hbm, 469, rfl⟩
abbrev main_cst_99 : Ref sig .tc := ⟨.hbm, 470, rfl⟩
abbrev main_v321 : Ref sig .tc := ⟨.hbm, 471, rfl⟩
abbrev main_c_100 : Ref sig .tc := ⟨.hbm, 472, rfl⟩
abbrev main_v322 : Ref sig .tc := ⟨.hbm, 473, rfl⟩
abbrev main_v323 : Ref sig .tc := ⟨.hbm, 474, rfl⟩
abbrev main_c_101 : Ref sig .tc := ⟨.hbm, 475, rfl⟩
abbrev main_v324 : Ref sig .tc := ⟨.hbm, 476, rfl⟩
abbrev main_v325 : Ref sig .tc := ⟨.hbm, 477, rfl⟩
abbrev main_v326 : Ref sig .tc := ⟨.hbm, 478, rfl⟩
abbrev main_c_102 : Ref sig .tc := ⟨.hbm, 479, rfl⟩
abbrev main_v327 : Ref sig .tc := ⟨.hbm, 480, rfl⟩
abbrev main_v328 : Ref sig .tc := ⟨.hbm, 481, rfl⟩
abbrev main_c_103 : Ref sig .tc := ⟨.hbm, 482, rfl⟩
abbrev main_v329 : Ref sig .tc := ⟨.hbm, 483, rfl⟩
abbrev main_v330 : Ref sig .tc := ⟨.hbm, 484, rfl⟩
abbrev main_v331 : Ref sig .tc := ⟨.hbm, 485, rfl⟩
abbrev main_v332 : Ref sig .tc := ⟨.hbm, 486, rfl⟩
abbrev main_v333 : Ref sig .tc := ⟨.hbm, 487, rfl⟩
abbrev main_v334 : Ref sig .tc := ⟨.hbm, 488, rfl⟩
abbrev main_v335 : Ref sig .tc := ⟨.hbm, 489, rfl⟩
abbrev main_v336 : Ref sig .tc := ⟨.hbm, 490, rfl⟩
abbrev main_call8_v0 : Ref sig .tc := ⟨.hbm, 491, rfl⟩
abbrev main_call8_v1 : Ref sig .tc := ⟨.hbm, 492, rfl⟩
abbrev main_call8_v2 : Ref sig .tc := ⟨.hbm, 493, rfl⟩
abbrev main_call8_v3 : Ref sig .tc := ⟨.hbm, 494, rfl⟩
abbrev main_call8_v4 : Ref sig .tc := ⟨.hbm, 495, rfl⟩
abbrev main_v337 : Ref sig .tc := ⟨.hbm, 496, rfl⟩
abbrev main_cst_104 : Ref sig .tc := ⟨.hbm, 497, rfl⟩
abbrev main_v338 : Ref sig .tc := ⟨.hbm, 498, rfl⟩
abbrev main_cst_105 : Ref sig .tc := ⟨.hbm, 499, rfl⟩
abbrev main_v339 : Ref sig .tc := ⟨.hbm, 500, rfl⟩
abbrev main_cst_106 : Ref sig .tc := ⟨.hbm, 501, rfl⟩
abbrev main_v340 : Ref sig .tc := ⟨.hbm, 502, rfl⟩
abbrev main_v341 : Ref sig .tc := ⟨.hbm, 503, rfl⟩
abbrev main_v342 : Ref sig .tc := ⟨.hbm, 504, rfl⟩
abbrev main_v343 : Ref sig .tc := ⟨.hbm, 505, rfl⟩
abbrev main_v344 : Ref sig .tc := ⟨.hbm, 506, rfl⟩
abbrev main_v345 : Ref sig .tc := ⟨.hbm, 507, rfl⟩
abbrev main_cst_107 : Ref sig .tc := ⟨.hbm, 508, rfl⟩
abbrev main_v346 : Ref sig .tc := ⟨.hbm, 509, rfl⟩
abbrev main_v347 : Ref sig .tc := ⟨.hbm, 510, rfl⟩
abbrev main_v348 : Ref sig .tc := ⟨.hbm, 511, rfl⟩
abbrev main_v349 : Ref sig .tc := ⟨.hbm, 512, rfl⟩
abbrev main_v350 : Ref sig .tc := ⟨.hbm, 513, rfl⟩
abbrev main_v351 : Ref sig .tc := ⟨.hbm, 514, rfl⟩
abbrev main_v352 : Ref sig .tc := ⟨.hbm, 515, rfl⟩
abbrev main_v353 : Ref sig .tc := ⟨.hbm, 516, rfl⟩
abbrev main_v354 : Ref sig .tc := ⟨.hbm, 517, rfl⟩
abbrev main_call9_cst : Ref sig .tc := ⟨.hbm, 518, rfl⟩
abbrev main_call9_v0 : Ref sig .tc := ⟨.hbm, 519, rfl⟩
abbrev main_v355 : Ref sig .tc := ⟨.hbm, 520, rfl⟩
abbrev main_v356 : Ref sig .tc := ⟨.hbm, 521, rfl⟩
abbrev main_v357 : Ref sig .tc := ⟨.hbm, 522, rfl⟩
abbrev main_v358 : Ref sig .tc := ⟨.hbm, 523, rfl⟩
abbrev main_v359 : Ref sig .tc := ⟨.hbm, 524, rfl⟩
abbrev main_cst_108 : Ref sig .tc := ⟨.hbm, 525, rfl⟩
abbrev main_v360 : Ref sig .tc := ⟨.hbm, 526, rfl⟩
abbrev main_v361 : Ref sig .tc := ⟨.hbm, 527, rfl⟩
abbrev main_v362 : Ref sig .tc := ⟨.hbm, 528, rfl⟩
abbrev main_v363 : Ref sig .tc := ⟨.hbm, 529, rfl⟩
abbrev main_v364 : Ref sig .tc := ⟨.hbm, 530, rfl⟩
abbrev main_v365 : Ref sig .tc := ⟨.hbm, 531, rfl⟩
abbrev main_v366 : Ref sig .tc := ⟨.hbm, 532, rfl⟩
abbrev main_v367 : Ref sig .tc := ⟨.hbm, 533, rfl⟩
abbrev main_v368 : Ref sig .tc := ⟨.hbm, 534, rfl⟩
abbrev main_v369 : Ref sig .tc := ⟨.hbm, 535, rfl⟩
abbrev main_call10_cst : Ref sig .tc := ⟨.hbm, 536, rfl⟩
abbrev main_call10_v0 : Ref sig .tc := ⟨.hbm, 537, rfl⟩
abbrev main_v370 : Ref sig .tc := ⟨.hbm, 538, rfl⟩
abbrev main_v371 : Ref sig .tc := ⟨.hbm, 539, rfl⟩
abbrev main_v372 : Ref sig .tc := ⟨.hbm, 540, rfl⟩
abbrev main_v373 : Ref sig .tc := ⟨.hbm, 541, rfl⟩
abbrev main_v374 : Ref sig .tc := ⟨.hbm, 542, rfl⟩
abbrev main_v375 : Ref sig .tc := ⟨.hbm, 543, rfl⟩
abbrev main_v376 : Ref sig .tc := ⟨.hbm, 544, rfl⟩
abbrev main_cst_109 : Ref sig .tc := ⟨.hbm, 545, rfl⟩
abbrev main_v377 : Ref sig .tc := ⟨.hbm, 546, rfl⟩
abbrev main_v378 : Ref sig .tc := ⟨.hbm, 547, rfl⟩
abbrev main_v379 : Ref sig .tc := ⟨.hbm, 548, rfl⟩
abbrev main_v380 : Ref sig .tc := ⟨.hbm, 549, rfl⟩
abbrev main_v381 : Ref sig .tc := ⟨.hbm, 550, rfl⟩
abbrev main_v382 : Ref sig .tc := ⟨.hbm, 551, rfl⟩
abbrev main_v383 : Ref sig .tc := ⟨.hbm, 552, rfl⟩
abbrev main_v384 : Ref sig .tc := ⟨.hbm, 553, rfl⟩
abbrev main_v385 : Ref sig .tc := ⟨.hbm, 554, rfl⟩
abbrev main_v386 : Ref sig .tc := ⟨.hbm, 555, rfl⟩
abbrev main_call11_cst : Ref sig .tc := ⟨.hbm, 556, rfl⟩
abbrev main_call11_v0 : Ref sig .tc := ⟨.hbm, 557, rfl⟩
abbrev main_v387 : Ref sig .tc := ⟨.hbm, 558, rfl⟩
abbrev main_v388 : Ref sig .tc := ⟨.hbm, 559, rfl⟩
abbrev main_v389 : Ref sig .tc := ⟨.hbm, 560, rfl⟩
abbrev main_v390 : Ref sig .tc := ⟨.hbm, 561, rfl⟩
abbrev main_v391 : Ref sig .tc := ⟨.hbm, 562, rfl⟩
abbrev main_v392 : Ref sig .tc := ⟨.hbm, 563, rfl⟩
abbrev main_v393 : Ref sig .tc := ⟨.hbm, 564, rfl⟩
abbrev main_cst_110 : Ref sig .tc := ⟨.hbm, 565, rfl⟩
abbrev main_v394 : Ref sig .tc := ⟨.hbm, 566, rfl⟩
abbrev main_v395 : Ref sig .tc := ⟨.hbm, 567, rfl⟩
abbrev main_v396 : Ref sig .tc := ⟨.hbm, 568, rfl⟩
abbrev main_v397 : Ref sig .tc := ⟨.hbm, 569, rfl⟩
abbrev main_v398 : Ref sig .tc := ⟨.hbm, 570, rfl⟩
abbrev main_v399 : Ref sig .tc := ⟨.hbm, 571, rfl⟩
abbrev main_v400 : Ref sig .tc := ⟨.hbm, 572, rfl⟩
abbrev main_v401 : Ref sig .tc := ⟨.hbm, 573, rfl⟩
abbrev main_v402 : Ref sig .tc := ⟨.hbm, 574, rfl⟩
abbrev main_v403 : Ref sig .tc := ⟨.hbm, 575, rfl⟩
abbrev main_call12_cst : Ref sig .tc := ⟨.hbm, 576, rfl⟩
abbrev main_call12_v0 : Ref sig .tc := ⟨.hbm, 577, rfl⟩
abbrev main_v404 : Ref sig .tc := ⟨.hbm, 578, rfl⟩
abbrev main_v405 : Ref sig .tc := ⟨.hbm, 579, rfl⟩
abbrev main_v406 : Ref sig .tc := ⟨.hbm, 580, rfl⟩
abbrev main_v407 : Ref sig .tc := ⟨.hbm, 581, rfl⟩
abbrev main_v408 : Ref sig .tc := ⟨.hbm, 582, rfl⟩
abbrev main_v409 : Ref sig .tc := ⟨.hbm, 583, rfl⟩
abbrev main_v410 : Ref sig .tc := ⟨.hbm, 584, rfl⟩
abbrev main_cst_111 : Ref sig .tc := ⟨.hbm, 585, rfl⟩
abbrev main_v411 : Ref sig .tc := ⟨.hbm, 586, rfl⟩
abbrev main_v412 : Ref sig .tc := ⟨.hbm, 587, rfl⟩
abbrev main_v413 : Ref sig .tc := ⟨.hbm, 588, rfl⟩
abbrev main_v414 : Ref sig .tc := ⟨.hbm, 589, rfl⟩
abbrev main_v415 : Ref sig .tc := ⟨.hbm, 590, rfl⟩
abbrev main_v416 : Ref sig .tc := ⟨.hbm, 591, rfl⟩
abbrev main_v417 : Ref sig .tc := ⟨.hbm, 592, rfl⟩
abbrev main_v418 : Ref sig .tc := ⟨.hbm, 593, rfl⟩
abbrev main_v419 : Ref sig .tc := ⟨.hbm, 594, rfl⟩
abbrev main_v420 : Ref sig .tc := ⟨.hbm, 595, rfl⟩
abbrev main_call13_cst : Ref sig .tc := ⟨.hbm, 596, rfl⟩
abbrev main_call13_v0 : Ref sig .tc := ⟨.hbm, 597, rfl⟩
abbrev main_v421 : Ref sig .tc := ⟨.hbm, 598, rfl⟩
abbrev main_v422 : Ref sig .tc := ⟨.hbm, 599, rfl⟩
abbrev main_v423 : Ref sig .tc := ⟨.hbm, 600, rfl⟩
abbrev main_v424 : Ref sig .tc := ⟨.hbm, 601, rfl⟩
abbrev main_v425 : Ref sig .tc := ⟨.hbm, 602, rfl⟩
abbrev main_v426 : Ref sig .tc := ⟨.hbm, 603, rfl⟩
abbrev main_v427 : Ref sig .tc := ⟨.hbm, 604, rfl⟩
abbrev main_cst_112 : Ref sig .tc := ⟨.hbm, 605, rfl⟩
abbrev main_v428 : Ref sig .tc := ⟨.hbm, 606, rfl⟩
abbrev main_v429 : Ref sig .tc := ⟨.hbm, 607, rfl⟩
abbrev main_v430 : Ref sig .tc := ⟨.hbm, 608, rfl⟩
abbrev main_v431 : Ref sig .tc := ⟨.hbm, 609, rfl⟩
abbrev main_v432 : Ref sig .tc := ⟨.hbm, 610, rfl⟩
abbrev main_v433 : Ref sig .tc := ⟨.hbm, 611, rfl⟩
abbrev main_v434 : Ref sig .tc := ⟨.hbm, 612, rfl⟩
abbrev main_v435 : Ref sig .tc := ⟨.hbm, 613, rfl⟩
abbrev main_v436 : Ref sig .tc := ⟨.hbm, 614, rfl⟩
abbrev main_v437 : Ref sig .tc := ⟨.hbm, 615, rfl⟩
abbrev main_call14_cst : Ref sig .tc := ⟨.hbm, 616, rfl⟩
abbrev main_call14_v0 : Ref sig .tc := ⟨.hbm, 617, rfl⟩
abbrev main_v438 : Ref sig .tc := ⟨.hbm, 618, rfl⟩
abbrev main_v439 : Ref sig .tc := ⟨.hbm, 619, rfl⟩
abbrev main_v440 : Ref sig .tc := ⟨.hbm, 620, rfl⟩
abbrev main_v441 : Ref sig .tc := ⟨.hbm, 621, rfl⟩
abbrev main_v442 : Ref sig .tc := ⟨.hbm, 622, rfl⟩
abbrev main_v443 : Ref sig .tc := ⟨.hbm, 623, rfl⟩
abbrev main_v444 : Ref sig .tc := ⟨.hbm, 624, rfl⟩
abbrev main_cst_113 : Ref sig .tc := ⟨.hbm, 625, rfl⟩
abbrev main_v445 : Ref sig .tc := ⟨.hbm, 626, rfl⟩
abbrev main_v446 : Ref sig .tc := ⟨.hbm, 627, rfl⟩
abbrev main_v447 : Ref sig .tc := ⟨.hbm, 628, rfl⟩
abbrev main_v448 : Ref sig .tc := ⟨.hbm, 629, rfl⟩
abbrev main_v449 : Ref sig .tc := ⟨.hbm, 630, rfl⟩
abbrev main_v450 : Ref sig .tc := ⟨.hbm, 631, rfl⟩
abbrev main_v451 : Ref sig .tc := ⟨.hbm, 632, rfl⟩
abbrev main_v452 : Ref sig .tc := ⟨.hbm, 633, rfl⟩
abbrev main_v453 : Ref sig .tc := ⟨.hbm, 634, rfl⟩
abbrev main_v454 : Ref sig .tc := ⟨.hbm, 635, rfl⟩
abbrev main_call15_cst : Ref sig .tc := ⟨.hbm, 636, rfl⟩
abbrev main_call15_v0 : Ref sig .tc := ⟨.hbm, 637, rfl⟩
abbrev main_v455 : Ref sig .tc := ⟨.hbm, 638, rfl⟩
abbrev main_v456 : Ref sig .tc := ⟨.hbm, 639, rfl⟩
abbrev main_v457 : Ref sig .tc := ⟨.hbm, 640, rfl⟩
abbrev main_v458 : Ref sig .tc := ⟨.hbm, 641, rfl⟩
abbrev main_v459 : Ref sig .tc := ⟨.hbm, 642, rfl⟩
abbrev main_v460 : Ref sig .tc := ⟨.hbm, 643, rfl⟩
abbrev main_v461 : Ref sig .tc := ⟨.hbm, 644, rfl⟩
abbrev main_cst_114 : Ref sig .tc := ⟨.hbm, 645, rfl⟩
abbrev main_v462 : Ref sig .tc := ⟨.hbm, 646, rfl⟩
abbrev main_v463 : Ref sig .tc := ⟨.hbm, 647, rfl⟩
abbrev main_v464 : Ref sig .tc := ⟨.hbm, 648, rfl⟩
abbrev main_v465 : Ref sig .tc := ⟨.hbm, 649, rfl⟩
abbrev main_v466 : Ref sig .tc := ⟨.hbm, 650, rfl⟩
abbrev main_v467 : Ref sig .tc := ⟨.hbm, 651, rfl⟩
abbrev main_v468 : Ref sig .tc := ⟨.hbm, 652, rfl⟩
abbrev main_v469 : Ref sig .tc := ⟨.hbm, 653, rfl⟩
abbrev main_v470 : Ref sig .tc := ⟨.hbm, 654, rfl⟩
abbrev main_v471 : Ref sig .tc := ⟨.hbm, 655, rfl⟩
abbrev main_call16_cst : Ref sig .tc := ⟨.hbm, 656, rfl⟩
abbrev main_call16_v0 : Ref sig .tc := ⟨.hbm, 657, rfl⟩
abbrev main_v472 : Ref sig .tc := ⟨.hbm, 658, rfl⟩
abbrev main_v473 : Ref sig .tc := ⟨.hbm, 659, rfl⟩
abbrev main_v474 : Ref sig .tc := ⟨.hbm, 660, rfl⟩
abbrev main_v475 : Ref sig .tc := ⟨.hbm, 661, rfl⟩
abbrev main_v476 : Ref sig .tc := ⟨.hbm, 662, rfl⟩
abbrev main_v477 : Ref sig .tc := ⟨.hbm, 663, rfl⟩
abbrev main_v478 : Ref sig .tc := ⟨.hbm, 664, rfl⟩
abbrev main_cst_115 : Ref sig .tc := ⟨.hbm, 665, rfl⟩
abbrev main_v479 : Ref sig .tc := ⟨.hbm, 666, rfl⟩
abbrev main_v480 : Ref sig .tc := ⟨.hbm, 667, rfl⟩
abbrev main_v481 : Ref sig .tc := ⟨.hbm, 668, rfl⟩
abbrev main_v482 : Ref sig .tc := ⟨.hbm, 669, rfl⟩

abbrev nD : Nat := 1
abbrev τ : Topo := Topo.v7x

variable {F : FTy → Type} [FloatOps F]
-- ==== Proof.RowMath.lean ====
/- Facts about one row of extended reals: the first and second greatest entry of a stretch of lanes, the folds that find them,
   and the two readings of a two-way softmax. No program is mentioned here. -/
module

public import Idealize.ShloMosaic.Lib.Pointwise
public import Idealize.ShloMosaic.Lib.WordCmp

@[expose] public section

noncomputable section

namespace Cert.Gate

open Idealize.ShloMosaic

/-- Entry `a` comes before entry `c` when the row is listed greatest first, equal entries in lane order. -/
def Beats {n : ℕ} (g : Fin n → EReal) (a c : Fin n) : Prop := g c < g a ∨ (g c = g a ∧ a < c)

theorem Beats.le {n : ℕ} {g : Fin n → EReal} {a c : Fin n} (h : Beats g a c) : g c ≤ g a := by
  rcases h with h | h
  · exact h.le
  · exact h.1.le

/-- Lanes `a` and `b` hold the greatest and the second greatest entry of lanes `lo ≤ lane < hi`. -/
structure Picks (g : Fin 36 → EReal) (lo hi : ℕ) (a b : Fin 36) : Prop where
  a_in : lo ≤ a.val ∧ a.val < hi
  b_in : lo ≤ b.val ∧ b.val < hi
  ne : b ≠ a
  first : ∀ c : Fin 36, lo ≤ c.val ∧ c.val < hi → c ≠ a → Beats g a c
  second : ∀ c : Fin 36, lo ≤ c.val ∧ c.val < hi → c ≠ a → c ≠ b → Beats g b c

/-- A fold whose operation keeps `v` against every entry, and `v` is an entry: the fold is `v`. -/
theorem fold_absorb {ι β : Type} [Fintype ι] (op : β → β → β) [Std.Commutative op] [Std.Associative op]
    (f : ι → β) (b v : β) (a : ι) (ha : f a = v) (hb : op v b = v) (h : ∀ c, op v (f c) = v) : Finset.univ.fold op b f = v := by
  classical
  have key : ∀ s : Finset ι, op v (s.fold op b f) = v := by
    intro s
    induction s using Finset.induction_on with
    | empty => simpa using hb
    | insert x s hx ih =>
      rw [Finset.fold_insert hx, ← Std.Associative.assoc (op := op) v (f x), h x, ih]
  rw [← Finset.insert_erase (Finset.mem_univ a), Finset.fold_insert (Finset.notMem_erase a _), ha]
  exact key _

/-- The pattern a greatest-entry fold starts from is −∞. -/
theorem negInf_eq : (Ideal.ofBits .f32 4286578688#32 : EReal) = ⊥ := by
  simp [Ideal.ofBits, Ideal.ieee]

/-- The greatest entry of a row, folded from −∞. -/
theorem fold_max_eq {n : ℕ} (x : Fin n → EReal) (a : Fin n) (h : ∀ c, x c ≤ x a) : Finset.univ.fold max ⊥ x = x a :=
  fold_absorb max x ⊥ (x a) a rfl (max_eq_left bot_le) fun c => max_eq_left (h c)

/-- The lesser of two small words, read signed. -/
theorem minsi_ofNat {i j : ℕ} (hi : i < 2 ^ 31) (hj : j < 2 ^ 31) (h : i ≤ j) :
    IntOp.minsi (BitVec.ofNat 32 i) (BitVec.ofNat 32 j) = BitVec.ofNat 32 i := by
  have h1 : (BitVec.ofNat 32 i).toInt = i := by
    rw [BitVec.toInt_eq_toNat_cond, BitVec.toNat_ofNat, Nat.mod_eq_of_lt (by omega), if_pos (by omega)]
  have h2 : (BitVec.ofNat 32 j).toInt = j := by
    rw [BitVec.toInt_eq_toNat_cond, BitVec.toNat_ofNat, Nat.mod_eq_of_lt (by omega), if_pos (by omega)]
  unfold IntOp.minsi
  by_cases e : i = j
  · subst e; split <;> rfl
  · rw [if_pos]
    rw [BitVec.slt, h1, h2]
    exact decide_eq_true (by omega)

/-- The first lane that holds the row's greatest entry, found by a fold of the lesser word. -/
theorem fold_first_eq (x : Fin 36 → EReal) (M : EReal) (a : Fin 36) (hM : M = x a) (h : ∀ c, c ≠ a → Beats x a c) :
    Finset.univ.fold IntOp.minsi (2147483647#32) (fun c : Fin 36 => if x c = M then BitVec.ofNat 32 c.val else 72#32)
      = BitVec.ofNat 32 a.val := by
  have ha := a.isLt
  refine fold_absorb IntOp.minsi _ _ _ a (by simp [hM]) (minsi_ofNat (by omega) (by norm_num) (by omega)) fun c => ?_
  have hc := c.isLt
  by_cases e : x c = M
  · simp only [if_pos e]
    refine minsi_ofNat (by omega) (by omega) ?_
    by_cases e' : c = a
    · subst e'; exact le_rfl
    · rcases h c e' with h | h
      · rw [hM] at e; exact absurd e h.ne
      · exact h.2.le
  · simp only [if_neg e]
    exact minsi_ofNat (by omega) (by norm_num) (by omega)

/-- A choice by «`lo ≤ lane < hi`», the comparisons made on words. -/
theorem select_within {α : Type} {lo hi c : ℕ} (hlo : lo < 2 ^ 31) (hhi : hi < 2 ^ 31) (hc : c < 2 ^ 31) (x y : α) :
    Scalar.select (IntOp.andi (IntOp.cmpi .sge (BitVec.ofNat 32 c) (BitVec.ofNat 32 lo))
      (IntOp.cmpi .slt (BitVec.ofNat 32 c) (BitVec.ofNat 32 hi))) x y = if lo ≤ c ∧ c < hi then x else y := by
  by_cases h1 : lo ≤ c
  · rw [(WordCmp.cmpi_sge_ofNat_eq_one_iff (w := 32) hc hlo).2 h1]
    by_cases h2 : c < hi
    · rw [(WordCmp.cmpi_slt_ofNat_eq_one_iff (w := 32) hc hhi).2 h2, if_pos ⟨h1, h2⟩]; rfl
    · rw [(WordCmp.cmpi_slt_ofNat_eq_zero_iff (w := 32) hc hhi).2 (by omega), if_neg (by tauto)]; rfl
  · rw [(WordCmp.cmpi_sge_ofNat_eq_zero_iff (w := 32) hc hlo).2 (by omega), if_neg (by tauto)]
    have : ∀ b : BitVec 1, Scalar.select (IntOp.andi 0#1 b) x y = y := by
      intro b
      have : IntOp.andi 0#1 b = 0#1 := by unfold IntOp.andi; exact BitVec.zero_and
      rw [this]; rfl
    exact this _

/-- A choice by equality of two small words. -/
theorem select_eq_word {α : Type} {c a : ℕ} (hc : c < 2 ^ 32) (ha : a < 2 ^ 32) (x y : α) :
    Scalar.select (IntOp.cmpi .eq (BitVec.ofNat 32 c) (BitVec.ofNat 32 a)) x y = if c = a then x else y := by
  by_cases h : c = a
  · rw [(WordCmp.cmpi_eq_ofNat_eq_one_iff (w := 32) hc ha).2 h, if_pos h]; rfl
  · rw [(WordCmp.cmpi_eq_ofNat_eq_zero_iff (w := 32) hc ha).2 h, if_neg h]; rfl

/-- A bit made a number. -/
theorem sitofp_bit_one : (FloatOps.sitofp .f32 (BitVec.setWidth 32 1#1) : Ideal .f32) = (1 : EReal) := by
  show (((BitVec.setWidth 32 1#1).toInt : ℝ) : EReal) = 1
  have : (BitVec.setWidth 32 1#1).toInt = 1 := by decide
  rw [this]; norm_num

theorem sitofp_bit_zero : (FloatOps.sitofp .f32 (BitVec.setWidth 32 0#1) : Ideal .f32) = (0 : EReal) := by
  show (((BitVec.setWidth 32 0#1).toInt : ℝ) : EReal) = 0
  have : (BitVec.setWidth 32 0#1).toInt = 0 := by decide
  rw [this]; norm_num

/-- Equality of two small words, made a number. -/
theorem sitofp_eq_word {c a : ℕ} (hc : c < 2 ^ 32) (ha : a < 2 ^ 32) :
    (FloatOps.sitofp .f32 (BitVec.setWidth 32 (IntOp.cmpi .eq (BitVec.ofNat 32 c) (BitVec.ofNat 32 a))) : Ideal .f32)
      = if c = a then (1 : EReal) else 0 := by
  by_cases h : c = a
  · rw [(WordCmp.cmpi_eq_ofNat_eq_one_iff (w := 32) hc ha).2 h, if_pos h, sitofp_bit_one]
  · rw [(WordCmp.cmpi_eq_ofNat_eq_zero_iff (w := 32) hc ha).2 h, if_neg h, sitofp_bit_zero]

/-- The share of the greater of two reals in their softmax: the logistic of the difference. -/
def shareOf (x y : EReal) : EReal := Ideal.logistic (x - y)

theorem exp_coe (x : ℝ) : Ideal.exp (x : EReal) = ((Real.exp x : ℝ) : EReal) := rfl

theorem div_coe (x y : ℝ) (hy : y ≠ 0) : Ideal.div (x : EReal) (y : EReal) = ((x / y : ℝ) : EReal) := by
  unfold Ideal.div
  rw [if_neg (by exact_mod_cast hy), ← EReal.coe_inv, ← EReal.coe_mul, div_eq_mul_inv]

theorem shareOf_coe (x y : ℝ) : shareOf x y = ((1 / (1 + Real.exp (y - x)) : ℝ) : EReal) := by
  have h : (0 : ℝ) < 1 + Real.exp (y - x) := by positivity
  unfold shareOf Ideal.logistic
  rw [← EReal.coe_sub, ← EReal.coe_neg, exp_coe, neg_sub, ← EReal.coe_one, ← EReal.coe_add, div_coe _ _ h.ne']

/-- The first pick's entry in the softmax of the two picks. -/
theorem softmax2_first (x y : ℝ) :
    Ideal.div (Ideal.exp ((x : EReal) - x)) (Ideal.exp ((x : EReal) - x) + Ideal.exp ((y : EReal) - x)) = shareOf x y := by
  have h : (0 : ℝ) < 1 + Real.exp (y - x) := by positivity
  rw [shareOf_coe, ← EReal.coe_sub, ← EReal.coe_sub, exp_coe, exp_coe, sub_self, Real.exp_zero, ← EReal.coe_add, div_coe _ _ h.ne']

/-- The second pick's entry in the softmax of the two picks. -/
theorem softmax2_second (x y : ℝ) :
    Ideal.div (Ideal.exp ((y : EReal) - x)) (Ideal.exp ((x : EReal) - x) + Ideal.exp ((y : EReal) - x)) = 1 - shareOf x y := by
  have h : (0 : ℝ) < 1 + Real.exp (y - x) := by positivity
  rw [shareOf_coe, ← EReal.coe_sub, ← EReal.coe_sub, exp_coe, exp_coe, sub_self, Real.exp_zero, ← EReal.coe_add, div_coe _ _ h.ne',
    ← EReal.coe_one, ← EReal.coe_sub]
  congr 1
  field_simp
  ring

/-! ## What a routing group writes at a lane -/

/-- Every entry of the row is a real number. -/
def AllReal {n : ℕ} (g : Fin n → EReal) : Prop := ∀ c, ∃ x : ℝ, g c = x

theorem AllReal.bot_lt {n : ℕ} {g : Fin n → EReal} (h : AllReal g) (c : Fin n) : ⊥ < g c := by
  obtain ⟨x, hx⟩ := h c
  rw [hx]; exact EReal.bot_lt_coe x

/-- The gate at lane `c` of a group whose picks are `a` and `b`. -/
def gateAt (g : Fin 36 → EReal) (a b c : Fin 36) : EReal :=
  if c = a then shareOf (g a) (g b) else if c = b then 1 - shareOf (g a) (g b) else 0

/-- The one-hot mark at lane `c`. -/
def hotAt (a b c : Fin 36) : EReal := if c = a ∨ c = b then 1 else 0

/-- The sum of a group's exponentials, each against the group's greatest logit. -/
def expSum (g : Fin 36 → EReal) (lo hi : ℕ) (a : Fin 36) : EReal :=
  ∑ x : Fin 36, if lo ≤ x.val ∧ x.val < hi then Ideal.exp (g x - g a) else 0

/-- The softmax of the group at lane `c`. -/
def softAt (g : Fin 36 → EReal) (lo hi : ℕ) (a c : Fin 36) : EReal := Ideal.div (Ideal.exp (g c - g a)) (expSum g lo hi a)

/-- The sum of exponentials is not zero: the greatest logit's own term is one. -/
theorem expSum_ne_zero {g : Fin 36 → EReal} {lo hi : ℕ} {a : Fin 36} (ha : lo ≤ a.val ∧ a.val < hi) (hg : AllReal g) :
    expSum g lo hi a ≠ 0 := by
  have hpos : ∀ x : EReal, 0 ≤ Ideal.exp x := by
    intro x
    induction x using EReal.rec with
    | bot => exact le_rfl
    | coe x => rw [exp_coe]; exact_mod_cast (Real.exp_pos x).le
    | top => exact le_top
  have h1 : (if lo ≤ a.val ∧ a.val < hi then Ideal.exp (g a - g a) else 0) ≤ expSum g lo hi a := by
    unfold expSum
    refine Finset.single_le_sum (f := fun x : Fin 36 => if lo ≤ x.val ∧ x.val < hi then Ideal.exp (g x - g a) else 0) ?_ (Finset.mem_univ a)
    intro x _
    split
    · exact hpos _
    · exact le_rfl
  rw [if_pos ha] at h1
  obtain ⟨x, hx⟩ := hg a
  rw [hx, ← EReal.coe_sub, sub_self, exp_coe, Real.exp_zero] at h1
  intro h0
  rw [h0] at h1
  exact absurd h1 (by simp)

theorem zero_div_of_ne {s : EReal} (h : s ≠ 0) : Ideal.div 0 s = 0 := by
  unfold Ideal.div
  rw [if_neg h, zero_mul]

end Cert.Gate

end
-- ==== Proof.KernelGroup.lean ====
/- The kernel's gating block, one routing group at a time: the vector operations of one group as functions of the logits block
   and of the group's first and last lane, and the three stored blocks as the eight groups applied in order. -/
module

public import proofs.«01_k».proof.Proof.Gen.KernelIdeal.Frame
public import proofs.«01_k».proof.Proof.RowMath
public import Idealize.ShloMosaic.Lib.Pointwise
public import Idealize.ShloMosaic.Lib.Pipeline.Value

@[expose] public section

noncomputable section

namespace Cert.Gate

open Idealize.ShloMosaic Idealize.SL.Sem Cert.KernelIdeal Cert.KernelIdeal.Gen

/-- A block of 1024 rows of 36 lanes. -/
abbrev Blk := FVec Ideal S1024x36 .f32
/-- One number per row of a block, kept as a column. -/
abbrev Col := FVec Ideal S1024x1 .f32

/-- The lane numbers 0 … 35. -/
def lanes : IVec S1x36 32 := iota .tc S1x36 32 [1] iota_S1x36_d1_w32

/-- Which lanes lie in `lo ≤ lane < hi`. -/
def within (lo hi : BitVec 32) : IVec S1x36 1 :=
  andi (cmpi .sge lanes (broadcast S1x36 lo)) (cmpi .slt lanes (broadcast S1x36 hi))

/-- The named mask value, in every lane. -/
def maskBlk : Blk := broadcast S1024x36 (Named.named κ "mask" 0xF149F2CA#32)

/-- The logits of the group, the mask value in the other lanes. -/
def masked (lo hi : BitVec 32) (g : Blk) : Blk :=
  select (broadcastTo S1024x36 (shapeCast S1x36 (within lo hi) shapeCasts_S1x36_S1x36) broadcasts_S1x36_S1024x36) g maskBlk

/-- Each row's greatest entry. -/
def rowMax (x : Blk) : Col :=
  shapeCast S1024x1 (multiReduction .maximumf [1] S1024 x 0xFF800000#32 reduces_S1024x36_S1024 (.inl rfl) rfl) shapeCasts_S1024_S1024x1

/-- A row's number in all its lanes. -/
def spread (x : Col) : Blk := broadcastTo S1024x36 x broadcasts_S1024x1_S1024x36

/-- Each row's first lane among those that equal the row's greatest entry. -/
def firstAt (x : Blk) : IVec S1024x1 32 :=
  shapeCast S1024x1 (multiReductionI .minsi [1] S1024
    (select (cmpf .oeq x (spread (rowMax x)))
      (broadcastTo S1024x36 (shapeCast S1x36 lanes shapeCasts_S1x36_S1x36) broadcasts_S1x36_S1024x36) (broadcast S1024x36 72#32))
    2147483647#32 reduces_S1024x36_S1024 rfl) shapeCasts_S1024_S1024x1

/-- Which lane of each row is the named one. -/
def isLane (i : IVec S1024x1 32) : IVec S1024x36 1 :=
  cmpi .eq (broadcastTo S1024x36 lanes broadcasts_S1x36_S1024x36) (broadcastTo S1024x36 i broadcasts_S1024x1_S1024x36)

/-- One in the named lane, zero in the others. -/
def hot (i : IVec S1024x1 32) : Blk := sitofp .f32 (extui 32 (isLane i) natLt_1_32)

/-- The block with the named lane overwritten by the mask value. -/
def without (x : Blk) (i : IVec S1024x1 32) : Blk := select (isLane i) maskBlk x

/-- The block left after a group's greatest logit is taken out. -/
def rest (x : Blk) : Blk := without x (firstAt x)

/-- The first pick's share. -/
def share (x : Blk) : Col := logistic (subf (rowMax x) (rowMax (rest x)))

/-- The exponentials of the group's lanes, zero elsewhere. -/
def weights (lo hi : BitVec 32) (x : Blk) : Blk :=
  select (broadcastTo S1024x36 (shapeCast S1x36 (within lo hi) shapeCasts_S1x36_S1x36) broadcasts_S1x36_S1024x36)
    (exp (subf x (spread (rowMax x)))) (broadcast S1024x36 (Scalar.ofBits .f32 0x00000000#32))

/-- Each row's sum. -/
def rowSum (x : Blk) : Col :=
  shapeCast S1024x1 (multiReduction .add [1] S1024 x 0x00000000#32 reduces_S1024x36_S1024 (.inl rfl) rfl) shapeCasts_S1024_S1024x1

/-- A group's gates added to what the groups before it wrote. -/
def gateStep (lo hi : BitVec 32) (g acc : Blk) : Blk :=
  addf (addf acc (mulf (hot (firstAt (masked lo hi g))) (spread (share (masked lo hi g)))))
    (mulf (hot (firstAt (rest (masked lo hi g))))
      (spread (subf (broadcast S1024x1 (Scalar.ofBits .f32 0x3F800000#32)) (share (masked lo hi g)))))

/-- A group's one-hot marks added to what the groups before it wrote. -/
def hotStep (lo hi : BitVec 32) (g acc : Blk) : Blk :=
  addf (addf acc (hot (firstAt (masked lo hi g)))) (hot (firstAt (rest (masked lo hi g))))

/-- A group's softmax added to what the groups before it wrote. -/
def softStep (lo hi : BitVec 32) (g acc : Blk) : Blk :=
  addf acc (divf (weights lo hi (masked lo hi g)) (spread (rowSum (weights lo hi (masked lo hi g)))))

/-- The group of one lane: a one in lane 0. -/
def single : Blk :=
  addf (broadcast S1024x36 (Scalar.ofBits .f32 0x00000000#32))
    (broadcastTo S1024x36 (sitofp .f32 (extui 32 (within 0#32 1#32) natLt_1_32) : FVec Ideal S1x36 .f32) broadcasts_S1x36_S1024x36)

/-- The groups of two to eight lanes: first lane, and one past the last. -/
def groups : List (ℕ × ℕ) := [(1, 3), (3, 6), (6, 10), (10, 15), (15, 21), (21, 28), (28, 36)]

/-- The groups of two to eight lanes, in order, after the group of one. -/
def allGroups (step : BitVec 32 → BitVec 32 → Blk → Blk → Blk) (g : Blk) : Blk :=
  groups.foldl (fun acc p => step (BitVec.ofNat 32 p.1) (BitVec.ofNat 32 p.2) g acc) single

/-- The block of logits the body computes, from the blocks it reads. -/
abbrev logits (x0 : Vec Ideal S1024x1024 .f32) (x1 : Vec Ideal S512x1024 .f32) (x2 : Vec Ideal S512 .f32) (x3 : Vec Ideal S36x512 .f32)
    (x4 : Vec Ideal S36 .f32) : Blk := k0_pay3 x0 x1 x2 x3 x4

theorem ld_all (x0 : Vec Ideal S1024x1024 .f32) (x1 : Vec Ideal S512x1024 .f32) (x2 : Vec Ideal S512 .f32) (x3 : Vec Ideal S36x512 .f32)
    (x4 : Vec Ideal S36 .f32) : k0_pay95 x0 x1 x2 x3 x4 = logits x0 x1 x2 x3 x4 := by
  have h2 : (![0, 0] : Fin 2 → Nat) = fun _ => 0 := by funext d; fin_cases d <;> rfl
  have h1 : (![0] : Fin 1 → Nat) = fun _ => 0 := by funext d; fin_cases d; rfl
  unfold k0_pay95 logits
  rw [View.ld_unit_zero (S := S1024x1024) h2, View.ld_unit_zero (S := S512x1024) h2, View.ld_unit_zero (S := S512) h1,
    View.ld_unit_zero (S := S36x512) h2, View.ld_unit_zero (S := S36) h1]

theorem gates_block (x0 : Vec Ideal S1024x1024 .f32) (x1 : Vec Ideal S512x1024 .f32) (x2 : Vec Ideal S512 .f32) (x3 : Vec Ideal S36x512 .f32)
    (x4 : Vec Ideal S36 .f32) : out0_5 x0 x1 x2 x3 x4 = allGroups gateStep (k0_pay95 x0 x1 x2 x3 x4) := by
  unfold out0_5
  rw [View.canon_unit_zero]
  · rfl
  · funext d; fin_cases d <;> rfl

theorem hot_block (x0 : Vec Ideal S1024x1024 .f32) (x1 : Vec Ideal S512x1024 .f32) (x2 : Vec Ideal S512 .f32) (x3 : Vec Ideal S36x512 .f32)
    (x4 : Vec Ideal S36 .f32) : out0_6 x0 x1 x2 x3 x4 = allGroups hotStep (k0_pay95 x0 x1 x2 x3 x4) := by
  unfold out0_6
  rw [View.canon_unit_zero]
  · rfl
  · funext d; fin_cases d <;> rfl

theorem soft_block (x0 : Vec Ideal S1024x1024 .f32) (x1 : Vec Ideal S512x1024 .f32) (x2 : Vec Ideal S512 .f32) (x3 : Vec Ideal S36x512 .f32)
    (x4 : Vec Ideal S36 .f32) : out0_7 x0 x1 x2 x3 x4 = allGroups softStep (k0_pay95 x0 x1 x2 x3 x4) := by
  unfold out0_7
  rw [View.canon_unit_zero]
  · rfl
  · funext d; fin_cases d <;> rfl

/-! ## The operations at an entry -/

/-- The named mask value is −∞. -/
theorem mask_eq : (Named.named κ "mask" 0xF149F2CA#32 : Ideal .f32) = (⊥ : EReal) :=
  IdealRules.named_const.ideal_named_scalar _ _ _ _ rfl

variable (r : Fin 1024) (c : Fin 36)

theorem masked_apply {lo hi : ℕ} (hlo : lo < 2 ^ 31) (hhi : hi < 2 ^ 31) (g : Blk) :
    masked (BitVec.ofNat 32 lo) (BitVec.ofNat 32 hi) g (ix2 r c) = if lo ≤ c.val ∧ c.val < hi then g (ix2 r c) else ⊥ := by
  have hc := c.isLt
  pointwise [masked, within, lanes, maskBlk]
  rw [select_within hlo hhi (by omega), mask_eq]

theorem rowMax_apply (x : Blk) : rowMax x (ix2 r 0) = Finset.univ.fold max ⊥ (fun c : Fin 36 => x (ix2 r c)) := by
  pointwise [rowMax]
  rw [negInf_eq]

theorem rowMax_of (x : Blk) (a : Fin 36) (h : ∀ c, x (ix2 r c) ≤ x (ix2 r a)) : rowMax x (ix2 r 0) = x (ix2 r a) := by
  rw [rowMax_apply]
  exact fold_max_eq (fun c => x (ix2 r c)) a h

theorem firstAt_of (x : Blk) (a : Fin 36) (h : ∀ c, c ≠ a → Beats (fun c => x (ix2 r c)) a c) :
    firstAt x (ix2 r 0) = BitVec.ofNat 32 a.val := by
  have hM : rowMax x (ix2 r 0) = x (ix2 r a) := rowMax_of r x a fun c => by
    by_cases e : c = a
    · rw [e]
    · exact (h c e).le
  rw [← fold_first_eq (fun c => x (ix2 r c)) _ a hM h]
  pointwise [firstAt, spread, lanes]

theorem hot_apply (i : IVec S1024x1 32) (a : Fin 36) (h : i (ix2 r 0) = BitVec.ofNat 32 a.val) :
    hot i (ix2 r c) = if c = a then (1 : EReal) else 0 := by
  have hc := c.isLt
  have ha := a.isLt
  pointwise [hot, isLane, lanes]
  rw [h, sitofp_eq_word (by omega) (by omega)]
  simp only [Fin.ext_iff]

theorem rest_apply (x : Blk) (a : Fin 36) (h : firstAt x (ix2 r 0) = BitVec.ofNat 32 a.val) :
    rest x (ix2 r c) = if c = a then ⊥ else x (ix2 r c) := by
  have hc := c.isLt
  have ha := a.isLt
  pointwise [rest, without, isLane, lanes, maskBlk]
  rw [h, select_eq_word (by omega) (by omega), mask_eq]
  simp only [Fin.ext_iff]

theorem weights_apply {lo hi : ℕ} (hlo : lo < 2 ^ 31) (hhi : hi < 2 ^ 31) (x : Blk) :
    weights (BitVec.ofNat 32 lo) (BitVec.ofNat 32 hi) x (ix2 r c)
      = if lo ≤ c.val ∧ c.val < hi then Ideal.exp (x (ix2 r c) - rowMax x (ix2 r 0)) else (0 : EReal) := by
  have hc := c.isLt
  pointwise [weights, within, spread, lanes]
  rw [select_within hlo hhi (by omega)]

theorem gateStep_apply (lo hi : BitVec 32) (g acc : Blk) :
    gateStep lo hi g acc (ix2 r c) = acc (ix2 r c)
      + hot (firstAt (masked lo hi g)) (ix2 r c) * shareOf (rowMax (masked lo hi g) (ix2 r 0)) (rowMax (rest (masked lo hi g)) (ix2 r 0))
      + hot (firstAt (rest (masked lo hi g))) (ix2 r c)
        * (1 - shareOf (rowMax (masked lo hi g) (ix2 r 0)) (rowMax (rest (masked lo hi g)) (ix2 r 0))) := by
  unfold shareOf
  pointwise [gateStep, spread, share]

theorem hotStep_apply (lo hi : BitVec 32) (g acc : Blk) :
    hotStep lo hi g acc (ix2 r c) = acc (ix2 r c)
      + hot (firstAt (masked lo hi g)) (ix2 r c) + hot (firstAt (rest (masked lo hi g))) (ix2 r c) := by
  pointwise [hotStep]

theorem softStep_apply (lo hi : BitVec 32) (g acc : Blk) :
    softStep lo hi g acc (ix2 r c) = acc (ix2 r c)
      + Ideal.div (weights lo hi (masked lo hi g) (ix2 r c)) (∑ x : Fin 36, weights lo hi (masked lo hi g) (ix2 r x)) := by
  pointwise [softStep, spread, rowSum]

theorem single_apply : single (ix2 r c) = if c.val = 0 then (1 : EReal) else 0 := by
  have hc := c.isLt
  pointwise [single, within, lanes]
  have : IntOp.andi (IntOp.cmpi .sge (BitVec.ofNat 32 c.val) 0#32) (IntOp.cmpi .slt (BitVec.ofNat 32 c.val) 1#32)
      = if c.val = 0 then 1#1 else 0#1 := by
    clear hc; revert c; decide
  rw [this]
  split
  · exact sitofp_bit_one
  · exact sitofp_bit_zero

/-! ## One group, once its picks are known -/

variable {r c} {lo hi : ℕ} {g : Blk} {a b : Fin 36}

theorem bounds_of (hp : Picks (fun c => g (ix2 r c)) lo hi a b) (hhi : hi ≤ 36) : lo < 2 ^ 31 ∧ hi < 2 ^ 31 := by
  have := hp.a_in
  omega

theorem masked_first (hp : Picks (fun c => g (ix2 r c)) lo hi a b) (hhi : hi ≤ 36) (hg : AllReal fun c : Fin 36 => g (ix2 r c)) :
    ∀ c, c ≠ a → Beats (fun c => masked (BitVec.ofNat 32 lo) (BitVec.ofNat 32 hi) g (ix2 r c)) a c := by
  obtain ⟨hlo', hhi'⟩ := bounds_of hp hhi
  intro c hca
  unfold Beats
  dsimp only
  rw [masked_apply r c hlo' hhi', masked_apply r a hlo' hhi', if_pos hp.a_in]
  by_cases hc : lo ≤ c.val ∧ c.val < hi
  · rw [if_pos hc]; exact hp.first c hc hca
  · rw [if_neg hc]; exact .inl (hg.bot_lt a)

theorem first_masked (hp : Picks (fun c => g (ix2 r c)) lo hi a b) (hhi : hi ≤ 36) (hg : AllReal fun c : Fin 36 => g (ix2 r c)) :
    firstAt (masked (BitVec.ofNat 32 lo) (BitVec.ofNat 32 hi) g) (ix2 r 0) = BitVec.ofNat 32 a.val :=
  firstAt_of r _ a (masked_first hp hhi hg)

theorem max_masked (hp : Picks (fun c => g (ix2 r c)) lo hi a b) (hhi : hi ≤ 36) (hg : AllReal fun c : Fin 36 => g (ix2 r c)) :
    rowMax (masked (BitVec.ofNat 32 lo) (BitVec.ofNat 32 hi) g) (ix2 r 0) = g (ix2 r a) := by
  obtain ⟨hlo', hhi'⟩ := bounds_of hp hhi
  rw [rowMax_of r _ a, masked_apply r a hlo' hhi', if_pos hp.a_in]
  intro c
  by_cases e : c = a
  · rw [e]
  · exact (masked_first hp hhi hg c e).le

theorem rest_masked_apply (hp : Picks (fun c => g (ix2 r c)) lo hi a b) (hhi : hi ≤ 36) (hg : AllReal fun c : Fin 36 => g (ix2 r c))
    (c : Fin 36) : rest (masked (BitVec.ofNat 32 lo) (BitVec.ofNat 32 hi) g) (ix2 r c)
      = if c = a then ⊥ else if lo ≤ c.val ∧ c.val < hi then g (ix2 r c) else ⊥ := by
  obtain ⟨hlo', hhi'⟩ := bounds_of hp hhi
  rw [rest_apply r c _ a (first_masked hp hhi hg), masked_apply r c hlo' hhi']

theorem rest_first (hp : Picks (fun c => g (ix2 r c)) lo hi a b) (hhi : hi ≤ 36) (hg : AllReal fun c : Fin 36 => g (ix2 r c)) :
    ∀ c, c ≠ b → Beats (fun c => rest (masked (BitVec.ofNat 32 lo) (BitVec.ofNat 32 hi) g) (ix2 r c)) b c := by
  intro c hcb
  unfold Beats
  dsimp only
  rw [rest_masked_apply hp hhi hg, rest_masked_apply hp hhi hg, if_neg hp.ne, if_pos hp.b_in]
  by_cases hca : c = a
  · rw [if_pos hca]; exact .inl (hg.bot_lt b)
  · rw [if_neg hca]
    by_cases hc : lo ≤ c.val ∧ c.val < hi
    · rw [if_pos hc]; exact hp.second c hc hca hcb
    · rw [if_neg hc]; exact .inl (hg.bot_lt b)

theorem first_rest (hp : Picks (fun c => g (ix2 r c)) lo hi a b) (hhi : hi ≤ 36) (hg : AllReal fun c : Fin 36 => g (ix2 r c)) :
    firstAt (rest (masked (BitVec.ofNat 32 lo) (BitVec.ofNat 32 hi) g)) (ix2 r 0) = BitVec.ofNat 32 b.val :=
  firstAt_of r _ b (rest_first hp hhi hg)

theorem max_rest (hp : Picks (fun c => g (ix2 r c)) lo hi a b) (hhi : hi ≤ 36) (hg : AllReal fun c : Fin 36 => g (ix2 r c)) :
    rowMax (rest (masked (BitVec.ofNat 32 lo) (BitVec.ofNat 32 hi) g)) (ix2 r 0) = g (ix2 r b) := by
  rw [rowMax_of r _ b, rest_masked_apply hp hhi hg, if_neg hp.ne, if_pos hp.b_in]
  intro c
  by_cases e : c = b
  · rw [e]
  · exact (rest_first hp hhi hg c e).le

/-- What a group's gate step adds: its gate at a lane of the group, nothing elsewhere. -/
theorem gateStep_of (hp : Picks (fun c => g (ix2 r c)) lo hi a b) (hhi : hi ≤ 36) (hg : AllReal fun c : Fin 36 => g (ix2 r c))
    (c : Fin 36) (acc : Blk) : gateStep (BitVec.ofNat 32 lo) (BitVec.ofNat 32 hi) g acc (ix2 r c)
      = acc (ix2 r c) + gateAt (fun c => g (ix2 r c)) a b c := by
  rw [gateStep_apply, hot_apply r c _ a (first_masked hp hhi hg), hot_apply r c _ b (first_rest hp hhi hg), max_masked hp hhi hg,
    max_rest hp hhi hg]
  unfold gateAt
  by_cases hca : c = a
  · have hcb : c ≠ b := fun h => hp.ne (h.symm.trans hca)
    rw [if_pos hca, if_neg hcb, if_pos hca, one_mul, zero_mul, add_zero]
  · by_cases hcb : c = b
    · rw [if_neg hca, if_pos hcb, if_neg hca, if_pos hcb, one_mul, zero_mul, add_zero]
    · rw [if_neg hca, if_neg hcb, if_neg hca, if_neg hcb, zero_mul, zero_mul, add_zero]

theorem hotStep_of (hp : Picks (fun c => g (ix2 r c)) lo hi a b) (hhi : hi ≤ 36) (hg : AllReal fun c : Fin 36 => g (ix2 r c))
    (c : Fin 36) (acc : Blk) : hotStep (BitVec.ofNat 32 lo) (BitVec.ofNat 32 hi) g acc (ix2 r c) = acc (ix2 r c) + hotAt a b c := by
  rw [hotStep_apply, hot_apply r c _ a (first_masked hp hhi hg), hot_apply r c _ b (first_rest hp hhi hg)]
  unfold hotAt
  by_cases hca : c = a
  · have hcb : c ≠ b := fun h => hp.ne (h.symm.trans hca)
    rw [if_pos hca, if_neg hcb, if_pos (.inl hca), add_zero]
  · by_cases hcb : c = b
    · rw [if_neg hca, if_pos hcb, if_pos (.inr hcb), add_zero]
    · rw [if_neg hca, if_neg hcb, if_neg (by tauto), add_zero, add_zero]

theorem weights_of (hp : Picks (fun c => g (ix2 r c)) lo hi a b) (hhi : hi ≤ 36) (hg : AllReal fun c : Fin 36 => g (ix2 r c))
    (c : Fin 36) : weights (BitVec.ofNat 32 lo) (BitVec.ofNat 32 hi) (masked (BitVec.ofNat 32 lo) (BitVec.ofNat 32 hi) g) (ix2 r c)
      = if lo ≤ c.val ∧ c.val < hi then Ideal.exp (g (ix2 r c) - g (ix2 r a)) else (0 : EReal) := by
  obtain ⟨hlo', hhi'⟩ := bounds_of hp hhi
  rw [weights_apply r c hlo' hhi', max_masked hp hhi hg, masked_apply r c hlo' hhi']
  by_cases hc : lo ≤ c.val ∧ c.val < hi
  · rw [if_pos hc, if_pos hc, if_pos hc]
  · rw [if_neg hc, if_neg hc]

theorem softStep_of (hp : Picks (fun c => g (ix2 r c)) lo hi a b) (hhi : hi ≤ 36) (hg : AllReal fun c : Fin 36 => g (ix2 r c))
    (c : Fin 36) (acc : Blk) : softStep (BitVec.ofNat 32 lo) (BitVec.ofNat 32 hi) g acc (ix2 r c)
      = acc (ix2 r c) + if lo ≤ c.val ∧ c.val < hi then softAt (fun c => g (ix2 r c)) lo hi a c else 0 := by
  rw [softStep_apply]
  simp only [weights_of hp hhi hg]
  congr 1
  by_cases hc : lo ≤ c.val ∧ c.val < hi
  · rw [if_pos hc, if_pos hc]; rfl
  · rw [if_neg hc, if_neg hc]
    exact zero_div_of_ne (expSum_ne_zero (g := fun c => g (ix2 r c)) hp.a_in hg)

/-! ## All groups in order -/

/-- Steps that leave an entry alone leave it alone together. -/
theorem fold_stay (step : BitVec 32 → BitVec 32 → Blk → Blk → Blk) (g : Blk) (r : Fin 1024) (c : Fin 36) (l : List (ℕ × ℕ))
    (h : ∀ p ∈ l, ∀ acc, step (BitVec.ofNat 32 p.1) (BitVec.ofNat 32 p.2) g acc (ix2 r c) = acc (ix2 r c)) (acc : Blk) :
    l.foldl (fun acc p => step (BitVec.ofNat 32 p.1) (BitVec.ofNat 32 p.2) g acc) acc (ix2 r c) = acc (ix2 r c) := by
  induction l generalizing acc with
  | nil => rfl
  | cons p l ih =>
    rw [List.foldl_cons, ih (fun q hq => h q (List.mem_cons_of_mem _ hq)), h p List.mem_cons_self]

theorem groups_apart : groups.Pairwise (fun p q => p.2 ≤ q.1) := by decide

theorem groups_le : ∀ p ∈ groups, p.2 ≤ 36 := by decide

theorem groups_ge : ∀ p ∈ groups, 1 ≤ p.1 := by decide

/-- A lane of one group holds what that group's step adds, when steps add nothing outside their own group. -/
theorem allGroups_at (step : BitVec 32 → BitVec 32 → Blk → Blk → Blk) (g : Blk) (r : Fin 1024) (c : Fin 36) (V : EReal)
    (hm : (lo, hi) ∈ groups) (hc : lo ≤ c.val ∧ c.val < hi)
    (stay : ∀ p ∈ groups, ¬(p.1 ≤ c.val ∧ c.val < p.2) →
      ∀ acc, step (BitVec.ofNat 32 p.1) (BitVec.ofNat 32 p.2) g acc (ix2 r c) = acc (ix2 r c))
    (own : ∀ acc, step (BitVec.ofNat 32 lo) (BitVec.ofNat 32 hi) g acc (ix2 r c) = acc (ix2 r c) + V) :
    allGroups step g (ix2 r c) = V := by
  have hge := groups_ge _ hm
  obtain ⟨l₁, l₂, hl⟩ := List.append_of_mem hm
  have hap := groups_apart
  rw [hl, List.pairwise_append, List.pairwise_cons] at hap
  obtain ⟨-, ⟨h2, -⟩, h1⟩ := hap
  have hmem : ∀ p, p ∈ l₁ ∨ p ∈ l₂ → p ∈ groups := by
    intro p hp; rw [hl]
    rcases hp with h | h
    · exact List.mem_append_left _ h
    · exact List.mem_append_right _ (List.mem_cons_of_mem _ h)
  unfold allGroups
  rw [hl, List.foldl_append, List.foldl_cons, fold_stay step g r c l₂, own, fold_stay step g r c l₁, single_apply, if_neg, zero_add]
  · dsimp only at hge; omega
  · intro p hp
    refine stay p (hmem p (.inl hp)) ?_
    have := h1 p hp (lo, hi) List.mem_cons_self
    dsimp only at this; omega
  · intro p hp
    refine stay p (hmem p (.inr hp)) ?_
    have := h2 p hp
    dsimp only at this; omega

/-- Lane 0 holds the group of one's mark. -/
theorem allGroups_zero (step : BitVec 32 → BitVec 32 → Blk → Blk → Blk) (g : Blk) (r : Fin 1024) (c : Fin 36) (hc : c.val = 0)
    (stay : ∀ p ∈ groups, ¬(p.1 ≤ c.val ∧ c.val < p.2) →
      ∀ acc, step (BitVec.ofNat 32 p.1) (BitVec.ofNat 32 p.2) g acc (ix2 r c) = acc (ix2 r c)) :
    allGroups step g (ix2 r c) = (1 : EReal) := by
  unfold allGroups
  rw [fold_stay step g r c groups, single_apply, if_pos hc]
  intro p hp
  refine stay p hp ?_
  have := groups_ge p hp
  omega

/-- Every group of the row has its two picks. -/
def AllPicked (g : Fin 36 → EReal) : Prop := ∀ p ∈ groups, ∃ a b, Picks g p.1 p.2 a b

theorem gate_stay (hg : AllReal fun c : Fin 36 => g (ix2 r c)) (hall : AllPicked fun c : Fin 36 => g (ix2 r c)) (c : Fin 36) :
    ∀ p ∈ groups, ¬(p.1 ≤ c.val ∧ c.val < p.2) →
      ∀ acc, gateStep (BitVec.ofNat 32 p.1) (BitVec.ofNat 32 p.2) g acc (ix2 r c) = acc (ix2 r c) := by
  intro p hm hc acc
  obtain ⟨a, b, hp⟩ := hall p hm
  rw [gateStep_of hp (groups_le p hm) hg, gateAt, if_neg, if_neg, add_zero]
  · rintro rfl; exact hc hp.b_in
  · rintro rfl; exact hc hp.a_in

theorem hot_stay (hg : AllReal fun c : Fin 36 => g (ix2 r c)) (hall : AllPicked fun c : Fin 36 => g (ix2 r c)) (c : Fin 36) :
    ∀ p ∈ groups, ¬(p.1 ≤ c.val ∧ c.val < p.2) →
      ∀ acc, hotStep (BitVec.ofNat 32 p.1) (BitVec.ofNat 32 p.2) g acc (ix2 r c) = acc (ix2 r c) := by
  intro p hm hc acc
  obtain ⟨a, b, hp⟩ := hall p hm
  rw [hotStep_of hp (groups_le p hm) hg, hotAt, if_neg, add_zero]
  rintro (rfl | rfl)
  · exact hc hp.a_in
  · exact hc hp.b_in

theorem soft_stay (hg : AllReal fun c : Fin 36 => g (ix2 r c)) (hall : AllPicked fun c : Fin 36 => g (ix2 r c)) (c : Fin 36) :
    ∀ p ∈ groups, ¬(p.1 ≤ c.val ∧ c.val < p.2) →
      ∀ acc, softStep (BitVec.ofNat 32 p.1) (BitVec.ofNat 32 p.2) g acc (ix2 r c) = acc (ix2 r c) := by
  intro p hm hc acc
  obtain ⟨a, b, hp⟩ := hall p hm
  rw [softStep_of hp (groups_le p hm) hg, if_neg hc, add_zero]

/-- The kernel's gates at a lane of a group. -/
theorem gates_at (hg : AllReal fun c : Fin 36 => g (ix2 r c)) (hall : AllPicked fun c : Fin 36 => g (ix2 r c)) (hm : (lo, hi) ∈ groups)
    (hp : Picks (fun c => g (ix2 r c)) lo hi a b) (c : Fin 36) (hc : lo ≤ c.val ∧ c.val < hi) :
    allGroups gateStep g (ix2 r c) = gateAt (fun c => g (ix2 r c)) a b c :=
  allGroups_at gateStep g r c _ hm hc (gate_stay hg hall c) fun acc => gateStep_of hp (groups_le _ hm) hg c acc

/-- The kernel's one-hot marks at a lane of a group. -/
theorem hots_at (hg : AllReal fun c : Fin 36 => g (ix2 r c)) (hall : AllPicked fun c : Fin 36 => g (ix2 r c)) (hm : (lo, hi) ∈ groups)
    (hp : Picks (fun c => g (ix2 r c)) lo hi a b) (c : Fin 36) (hc : lo ≤ c.val ∧ c.val < hi) :
    allGroups hotStep g (ix2 r c) = hotAt a b c :=
  allGroups_at hotStep g r c _ hm hc (hot_stay hg hall c) fun acc => hotStep_of hp (groups_le _ hm) hg c acc

/-- The kernel's softmax at a lane of a group. -/
theorem softs_at (hg : AllReal fun c : Fin 36 => g (ix2 r c)) (hall : AllPicked fun c : Fin 36 => g (ix2 r c)) (hm : (lo, hi) ∈ groups)
    (hp : Picks (fun c => g (ix2 r c)) lo hi a b) (c : Fin 36) (hc : lo ≤ c.val ∧ c.val < hi) :
    allGroups softStep g (ix2 r c) = softAt (fun c => g (ix2 r c)) lo hi a c :=
  allGroups_at softStep g r c _ hm hc (soft_stay hg hall c) fun acc => by
    rw [softStep_of hp (groups_le _ hm) hg c acc, if_pos hc]

end Cert.Gate

end
-- ==== Proof.TopTwo.lean ====
/- The first two positions of a stable sort that lists a row greatest first: they hold the greatest and the second greatest entry,
   equal entries in lane order. -/
module

public import proofs.«01_k».proof.Proof.RowMath
public import Idealize.ShloMosaic.Lib.SortFacts

@[expose] public section

noncomputable section

namespace Cert.Gate

open Idealize.ShloMosaic

variable {n : ℕ} {f : Fin n → EReal} {before : Fin n → Fin n → Bool}

/-- Inserting an entry of smaller lane number keeps a list in order. -/
theorem pairwise_insert (hb : ∀ a b, before a b = true ↔ f b < f a) (a : Fin n) (l : List (Fin n)) (hl : l.Pairwise (Beats f))
    (ha : ∀ b ∈ l, a < b) : (insertBefore before a l).Pairwise (Beats f) := by
  induction l with
  | nil => simp [insertBefore]
  | cons b l ih =>
    rw [List.pairwise_cons] at hl
    unfold insertBefore
    split
    · rename_i h
      rw [List.pairwise_cons]
      refine ⟨fun x hx => ?_, ih hl.2 fun x hx => ha x (List.mem_cons_of_mem _ hx)⟩
      rcases List.mem_cons.1 ((perm_insertBefore before a l).mem_iff.1 hx) with rfl | hx
      · exact .inl ((hb _ _).1 h)
      · exact hl.1 x hx
    · rename_i h
      rw [hb, not_lt] at h
      rw [List.pairwise_cons, List.pairwise_cons]
      refine ⟨fun x hx => ?_, hl⟩
      have hxle : f x ≤ f a := by
        rcases List.mem_cons.1 hx with rfl | hx
        · exact h
        · exact (hl.1 x hx).le.trans h
      rcases hxle.lt_or_eq with h' | h'
      · exact .inl h'
      · exact .inr ⟨h', ha x hx⟩

/-- The stable sort of an ascending list lists the entries greatest first, equal entries in lane order. -/
theorem pairwise_stable (hb : ∀ a b, before a b = true ↔ f b < f a) (l : List (Fin n)) (hl : l.Pairwise (· < ·)) :
    (stableSort before l).Pairwise (Beats f) := by
  induction l with
  | nil => simp [stableSort]
  | cons a l ih =>
    rw [List.pairwise_cons] at hl
    unfold stableSort
    exact pairwise_insert hb a _ (ih hl.2) fun b hm => hl.1 b ((perm_stableSort before l).mem_iff.1 hm)

/-- An earlier position of the sorted row beats a later one. -/
theorem sorted_beats (hb : ∀ a b, before a b = true ↔ f b < f a) {i j : Fin n} (h : i < j) :
    Beats f (sortedFrom before i) (sortedFrom before j) := by
  have hp : (sortPositions n before).Pairwise (Beats f) := pairwise_stable hb _ (List.pairwise_lt_finRange n)
  exact List.pairwise_iff_get.1 hp (i.cast _) (j.cast _) h

theorem top_first (hb : ∀ a b, before a b = true ↔ f b < f a) (h : 2 ≤ n) (c : Fin n) (hc : c ≠ sortedFrom before ⟨0, by omega⟩) :
    Beats f (sortedFrom before ⟨0, by omega⟩) c := by
  obtain ⟨k, rfl⟩ := sortedFrom_surjective before c
  refine sorted_beats hb ?_
  rcases Nat.eq_zero_or_pos k.val with h0 | h0
  · exact absurd (congrArg (sortedFrom before) (Fin.ext h0)) hc
  · exact h0

theorem top_second (hb : ∀ a b, before a b = true ↔ f b < f a) (h : 2 ≤ n) (c : Fin n) (hc : c ≠ sortedFrom before ⟨0, by omega⟩)
    (hc' : c ≠ sortedFrom before ⟨1, by omega⟩) : Beats f (sortedFrom before ⟨1, by omega⟩) c := by
  obtain ⟨k, rfl⟩ := sortedFrom_surjective before c
  refine sorted_beats hb ?_
  have h0 : k.val ≠ 0 := fun h0 => hc (congrArg (sortedFrom before) (Fin.ext h0))
  have h1 : k.val ≠ 1 := fun h0 => hc' (congrArg (sortedFrom before) (Fin.ext h0))
  show 1 < k.val
  omega

theorem top_ne (h : 2 ≤ n) : sortedFrom before ⟨1, by omega⟩ ≠ sortedFrom before ⟨0, by omega⟩ := fun e => by
  have := congrArg Fin.val (sortedFrom_injective before e)
  simp at this

/-- A lane of a group, as a lane of the row. -/
def lift {lo m : ℕ} (h : lo + m ≤ 36) (j : Fin m) : Fin 36 := ⟨lo + j.val, by have := j.isLt; omega⟩

theorem lift_inj {lo m : ℕ} (h : lo + m ≤ 36) {i j : Fin m} : lift h i = lift h j ↔ i = j := by
  unfold lift; simp [Fin.ext_iff]

theorem exists_lift {lo m : ℕ} (h : lo + m ≤ 36) (c : Fin 36) (hc : lo ≤ c.val ∧ c.val < lo + m) : ∃ j : Fin m, lift h j = c :=
  ⟨⟨c.val - lo, by omega⟩, Fin.ext (by unfold lift; dsimp only; omega)⟩

/-- The sorted group's first two lanes are the group's picks. -/
theorem picks_sorted {g : Fin 36 → EReal} {lo m : ℕ} (h : lo + m ≤ 36) (hm : 2 ≤ m) {before : Fin m → Fin m → Bool}
    (hb : ∀ a b, before a b = true ↔ g (lift h b) < g (lift h a)) :
    Picks g lo (lo + m) (lift h (sortedFrom before ⟨0, by omega⟩)) (lift h (sortedFrom before ⟨1, by omega⟩)) where
  a_in := ⟨Nat.le_add_right _ _, Nat.add_lt_add_left (Fin.isLt _) _⟩
  b_in := ⟨Nat.le_add_right _ _, Nat.add_lt_add_left (Fin.isLt _) _⟩
  ne := fun e => top_ne hm ((lift_inj h).1 e)
  first := by
    intro c hc hca
    obtain ⟨j, rfl⟩ := exists_lift h c hc
    rcases top_first (f := fun j => g (lift h j)) hb hm j (fun e => hca (by rw [e])) with h' | h'
    · exact .inl h'
    · exact .inr ⟨h'.1, Nat.add_lt_add_left h'.2 _⟩
  second := by
    intro c hc hca hcb
    obtain ⟨j, rfl⟩ := exists_lift h c hc
    rcases top_second (f := fun j => g (lift h j)) hb hm j (fun e => hca (by rw [e])) (fun e => hcb (by rw [e])) with h' | h'
    · exact .inl h'
    · exact .inr ⟨h'.1, Nat.add_lt_add_left h'.2 _⟩

/-- Every group of two or more lanes has its picks. -/
theorem exists_picks (g : Fin 36 → EReal) {lo hi : ℕ} (h : hi ≤ 36) (hm : lo + 2 ≤ hi) : ∃ a b, Picks g lo hi a b := by
  classical
  obtain ⟨m, rfl⟩ : ∃ m, hi = lo + m := ⟨hi - lo, by omega⟩
  exact ⟨_, _, picks_sorted (g := g) h (by omega) (before := fun a b => decide (g (lift h b) < g (lift h a))) fun a b => decide_eq_true_iff⟩

/-- A sum over the lanes of a group, taken over the row. -/
theorem sum_group {lo m : ℕ} (h : lo + m ≤ 36) (F : Fin 36 → EReal) :
    (∑ x : Fin 36, if lo ≤ x.val ∧ x.val < lo + m then F x else 0) = ∑ j : Fin m, F (lift h j) := by
  classical
  rw [← Finset.sum_filter]
  symm
  refine Finset.sum_bij (fun j _ => lift h j) ?_ ?_ ?_ ?_
  · intro j _
    simp only [Finset.mem_filter, Finset.mem_univ, true_and]
    exact ⟨Nat.le_add_right _ _, Nat.add_lt_add_left j.isLt _⟩
  · intro i _ j _ e
    exact (lift_inj h).1 e
  · intro c hc
    simp only [Finset.mem_filter, Finset.mem_univ, true_and] at hc
    obtain ⟨j, hj⟩ := exists_lift h c hc
    exact ⟨j, Finset.mem_univ _, hj⟩
  · intro j _; rfl

end Cert.Gate

end
-- ==== Proof.RefGroup.lean ====
/- The reference's routing groups: the top-two, the softmax, the scatter of the gates and the one-hot marks of a group of `m` lanes,
   each as a function of the group's logits, and what each holds at an entry. -/
module

public import proofs.«01_k».proof.Proof.TopTwo
public import proofs.«01_k».proof.Proof.Gen.ReferenceIdeal
public import Idealize.ShloMosaic.Lib.Pointwise
public import Idealize.ShloMosaic.Lib.IdealHost
public import Idealize.ShloMosaic.Lib.ScatterToDense.RefScatter

@[expose] public section

noncomputable section

namespace Cert.GateRef

open Idealize.ShloMosaic Cert.ReferenceIdeal Cert.ReferenceIdeal.Gen Cert.Gate

/-- A table of `m` columns, one row per token. -/
abbrev SW (m : ℕ) : Shape := ⟨2, ![8192, m]⟩
/-- The table of one-hot rows, two per token. -/
abbrev SH (m : ℕ) : Shape := ⟨3, ![8192, 2, m]⟩
/-- One row of `m` entries. -/
abbrev SI (m : ℕ) : Shape := ⟨3, ![1, 1, m]⟩

variable {m : ℕ}

/-- A number per row, in all the row's columns. -/
def spreadG {α : Type} (h2 : S8192x1.BroadcastsInDim (SW m) ![0, 1]) (x : S8192.Idx → α) : (SW m).Idx → α :=
  broadcastInDim (SW m) ![0, 1] h2 (broadcastInDim S8192x1 ![0] bcast_S8192_S8192x1_0 x)

/-- Each row's greatest entry. -/
def maxG (h1 : (SW m).ReducesTo [1] S8192) (x : FVec Ideal (SW m) .f32) : FVec Ideal S8192 .f32 :=
  maximumf (broadcastInDim S8192 ![] bcast_S_S8192 (constant S_ .f32 0xFF800000#32))
    (Host.reduce FloatOps.maximumf x (constant S_ .f32 0xFF800000#32) h1 h_S_)

/-- Each row's exponentials against its greatest entry. -/
def expG (h1 : (SW m).ReducesTo [1] S8192) (h2 : S8192x1.BroadcastsInDim (SW m) ![0, 1]) (x : FVec Ideal (SW m) .f32) :
    FVec Ideal (SW m) .f32 := Host.exp (subf x (spreadG h2 (maxG h1 x)))

/-- Each row's softmax. -/
def softG (h1 : (SW m).ReducesTo [1] S8192) (h2 : S8192x1.BroadcastsInDim (SW m) ![0, 1]) (x : FVec Ideal (SW m) .f32) :
    FVec Ideal (SW m) .f32 :=
  Host.divf (expG h1 h2 x) (spreadG h2 (Host.reduceAdd (expG h1 h2 x) (constant S_ .f32 0x00000000#32) h1 h_S_))

/-- The row numbers, as a column. -/
def rowsG : IVec S8192x1 32 := broadcastInDim S8192x1 ![0] bcast_S8192_S8192x1_0 (iotaInDim S8192 32 0)

/-- The row numbers after the wrap of negative ones. -/
def rowsWrapped : IVec S8192x1 32 :=
  select (cmpi .slt rowsG (broadcastInDim S8192x1 ![] bcast_S_S8192x1 (constantI S_ 32 0#32)))
    (addi rowsG (broadcastInDim S8192x1 ![] bcast_S_S8192x1 (constantI S_ 32 8192#32))) rowsG

/-- The picks after the wrap of negative ones. -/
def picksWrapped (n : BitVec 32) (i : IVec S8192x2 32) : IVec S8192x2 32 :=
  select (cmpi .slt i (broadcastInDim S8192x2 ![] bcast_S_S8192x2 (constantI S_ 32 0#32)))
    (addi i (broadcastInDim S8192x2 ![] bcast_S_S8192x2 (constantI S_ 32 n))) i

/-- The pairs (row, pick) at which the gates are written. -/
def placesG (n : BitVec 32) (i : IVec S8192x2 32) : IVec S8192x2x2 32 :=
  concatenate S8192x2x2 2
    [⟨S8192x2x1, broadcastInDim S8192x2x1 ![0, 1] bcast_S8192x2_S8192x2x1_0_1
      (broadcastInDim S8192x2 ![0, 1] bcast_S8192x1_S8192x2_0_1 rowsWrapped)⟩,
     ⟨S8192x2x1, broadcastInDim S8192x2x1 ![0, 1] bcast_S8192x2_S8192x2x1_0_1 (picksWrapped n i)⟩]
    concatenates_S8192x2x1_S8192x2x1_S8192x2x2_d2

/-- The gates: zero but at the picks. -/
def gatesG (d : ScatterDims (SW m) S8192x2x2 S8192x2) (h0 : S_.BroadcastsInDim (SW m) ![]) (n : BitVec 32) (i : IVec S8192x2 32)
    (top : FVec Ideal S8192x2 .f32) : FVec Ideal (SW m) .f32 :=
  Host.scatter d (fun _ b => b) (broadcastInDim (SW m) ![] h0 (constant S_ .f32 0x00000000#32)) (placesG n i) top

/-- The two one-hot rows of each token. -/
def marksG (hi : S8192x2x1.BroadcastsInDim (SH m) ![0, 1, 2]) (hc : (SI m).BroadcastsInDim (SH m) ![0, 1, 2]) (i : IVec S8192x2 32) :
    FVec Ideal (SH m) .f32 :=
  uitofp .f32 (cmpi .eq (broadcastInDim (SH m) ![0, 1, 2] hi (broadcastInDim S8192x2x1 ![0, 1] bcast_S8192x2_S8192x2x1_0_1 i))
    (broadcastInDim (SH m) ![0, 1, 2] hc (iotaInDim (SI m) 32 2)))

/-- The one-hot marks of each token. -/
def hotG (hi : S8192x2x1.BroadcastsInDim (SH m) ![0, 1, 2]) (hc : (SI m).BroadcastsInDim (SH m) ![0, 1, 2])
    (hr : (SH m).ReducesTo [1] (SW m)) (i : IVec S8192x2 32) : FVec Ideal (SW m) .f32 :=
  Host.reduceAdd (marksG hi hc i) (constant S_ .f32 0x00000000#32) hr h_S_

/-- The two greatest entries of each row, and their lanes. -/
abbrev topG (ht : (SW m).Slices (fun _ => 0) S8192x2) (x : FVec Ideal (SW m) .f32) : FVec Ideal S8192x2 .f32 × IVec S8192x2 32 :=
  Host.topK S8192x2 1 (FloatOps.cmpfTotal (F := Ideal) (φ := .f32) .gt) x ht

variable (r : Fin 8192)

theorem spreadG_apply {α : Type} (h2 : S8192x1.BroadcastsInDim (SW m) ![0, 1]) (x : S8192.Idx → α) (j : Fin m) :
    spreadG h2 x (ix2 r j) = x (ix1 r) := by
  pointwise [spreadG]

theorem maxG_apply (h1 : (SW m).ReducesTo [1] S8192) (x : FVec Ideal (SW m) .f32) :
    maxG h1 x (ix1 r) = Finset.univ.fold max ⊥ fun j : Fin m => x (ix2 r j) := by
  pointwise [maxG]
  rw [negInf_eq]
  exact max_eq_right bot_le

theorem expG_apply (h1 : (SW m).ReducesTo [1] S8192) (h2 : S8192x1.BroadcastsInDim (SW m) ![0, 1]) (x : FVec Ideal (SW m) .f32) (j : Fin m) :
    expG h1 h2 x (ix2 r j) = Ideal.exp (x (ix2 r j) - maxG h1 x (ix1 r)) := by
  pointwise [expG, spreadG_apply]

theorem softG_apply (h1 : (SW m).ReducesTo [1] S8192) (h2 : S8192x1.BroadcastsInDim (SW m) ![0, 1]) (x : FVec Ideal (SW m) .f32) (j : Fin m) :
    softG h1 h2 x (ix2 r j) = Ideal.div (Ideal.exp (x (ix2 r j) - maxG h1 x (ix1 r)))
      (∑ k : Fin m, Ideal.exp (x (ix2 r k) - maxG h1 x (ix1 r))) := by
  pointwise [softG, spreadG_apply, expG_apply]

/-- The wrap of negative words leaves a small word alone. -/
theorem wrap_small {a : ℕ} (ha : a < 2 ^ 31) (y : BitVec 32) :
    Scalar.select (IntOp.cmpi .slt (BitVec.ofNat 32 a) 0#32) y (BitVec.ofNat 32 a) = BitVec.ofNat 32 a := by
  have : IntOp.cmpi .slt (BitVec.ofNat 32 a) (BitVec.ofNat 32 0) = 0#1 :=
    (WordCmp.cmpi_slt_ofNat_eq_zero_iff (w := 32) ha (by norm_num)).2 (by omega)
  show Scalar.select (IntOp.cmpi .slt (BitVec.ofNat 32 a) (BitVec.ofNat 32 0)) y (BitVec.ofNat 32 a) = _
  rw [this]; rfl

theorem placesG_row (n : BitVec 32) (i : IVec S8192x2 32) (k : Fin 2) : placesG n i (ix3 r k 0) = BitVec.ofNat 32 r.val := by
  have hr := r.isLt
  pointwise [placesG, rowsWrapped, rowsG]
  exact wrap_small (by omega) _

theorem placesG_pick (n : BitVec 32) (i : IVec S8192x2 32) (k : Fin 2) {a : ℕ} (ha : a < 2 ^ 31) (hi : i (ix2 r k) = BitVec.ofNat 32 a) :
    placesG n i (ix3 r k 1) = BitVec.ofNat 32 a := by
  pointwise [placesG, picksWrapped]
  rw [hi]
  exact wrap_small ha _

/-- The one-hot marks at an entry: one for each pick that is this lane. -/
theorem hotG_apply (hi : S8192x2x1.BroadcastsInDim (SH m) ![0, 1, 2]) (hc : (SI m).BroadcastsInDim (SH m) ![0, 1, 2])
    (hr : (SH m).ReducesTo [1] (SW m)) (i : IVec S8192x2 32) (j : Fin m) :
    hotG hi hc hr i (ix2 r j)
      = ∑ k : Fin 2, (FloatOps.uitofp .f32 (IntOp.cmpi .eq (i (ix2 r k)) (BitVec.ofNat 32 j.val)) : Ideal .f32) := by
  pointwise [hotG, marksG]
  refine Finset.sum_congr rfl fun k _ => ?_
  congr 3
  by_cases h : m = 1
  · subst h
    have : j.val = 0 := by have := j.isLt; omega
    rw [this]; rfl
  · show (if h : m = 1 then (⟨0, _⟩ : Fin m) else ⟨j.val, _⟩).val = j.val
    rw [dif_neg h]

theorem uitofp_eq_word {c a : ℕ} (hc : c < 2 ^ 32) (ha : a < 2 ^ 32) :
    (FloatOps.uitofp .f32 (IntOp.cmpi .eq (BitVec.ofNat 32 c) (BitVec.ofNat 32 a)) : Ideal .f32) = if c = a then (1 : EReal) else 0 := by
  by_cases h : c = a
  · rw [(WordCmp.cmpi_eq_ofNat_eq_one_iff (w := 32) hc ha).2 h, if_pos h]
    show (((1#1 : BitVec 1).toNat : ℝ) : EReal) = 1
    norm_num
  · rw [(WordCmp.cmpi_eq_ofNat_eq_zero_iff (w := 32) hc ha).2 h, if_neg h]
    show (((0#1 : BitVec 1).toNat : ℝ) : EReal) = 0
    norm_num

/-- The order in which the sort of a row's lanes lists them. -/
def rowBefore (x : FVec Ideal (SW m) .f32) (r : Fin 8192) (a b : Fin m) : Bool :=
  FloatOps.cmpfTotal (F := Ideal) (φ := .f32) .gt (x (ix2 r a)) (x (ix2 r b)) == 1#1

theorem rowBefore_iff (x : FVec Ideal (SW m) .f32) (a b : Fin m) : rowBefore x r a b = true ↔ x (ix2 r b) < x (ix2 r a) := by
  unfold rowBefore
  rw [beq_iff_eq]
  show BitVec.ofBool (decide (x (ix2 r b) < x (ix2 r a))) = 1#1 ↔ _
  rw [WordCmp.ofBool_decide_eq_one_iff]

theorem along_ix2 (r : Fin 8192) (j k : Fin m) : (ix2 r j : (SW m).Idx).along 1 k = ix2 r k := by
  funext a
  fin_cases a <;> rfl

theorem slice_ix2 (ht : (SW m).Slices (fun _ => 0) S8192x2) (hm : 2 ≤ m) {α : Type} (y : (SW m).Idx → α) (k : Fin 2) :
    extractStridedSlice S8192x2 (fun _ => 0) y ht (ix2 r k) = y (ix2 r ⟨k.val, by have := k.isLt; omega⟩) := by
  unfold extractStridedSlice
  refine congrArg y (funext fun a => Fin.ext ?_)
  fin_cases a
  · exact Nat.zero_add _
  · exact Nat.zero_add _

theorem before_along (x : FVec Ideal (SW m) .f32) (j : Fin m) :
    (fun a b : Fin m => FloatOps.cmpfTotal (F := Ideal) (φ := .f32) .gt
      (x ((ix2 r j : (SW m).Idx).along 1 a)) (x ((ix2 r j : (SW m).Idx).along 1 b)) == 1#1) = rowBefore x r := by
  funext a b
  unfold rowBefore
  rw [along_ix2, along_ix2]

/-- The top-two's values: the row's entries at the first two lanes of its sort. -/
theorem topG_val (ht : (SW m).Slices (fun _ => 0) S8192x2) (hm : 2 ≤ m) (x : FVec Ideal (SW m) .f32) (k : Fin 2) :
    (topG ht x).1 (ix2 r k) = x (ix2 r (sortedFrom (rowBefore x r) ⟨k.val, by have := k.isLt; omega⟩)) := by
  unfold topG Host.topK
  dsimp only
  rw [slice_ix2 r ht hm]
  unfold Host.sort2
  rw [dif_pos (show 1 < (SW m).rank from Nat.one_lt_two)]
  exact (congrArg x (along_ix2 r _ _)).trans
    (congrArg (fun f => x (ix2 r (sortedFrom f ⟨k.val, by have := k.isLt; omega⟩))) (before_along r x ⟨k.val, by have := k.isLt; omega⟩))

/-- The top-two's lanes. -/
theorem topG_lane (ht : (SW m).Slices (fun _ => 0) S8192x2) (hm : 2 ≤ m) (x : FVec Ideal (SW m) .f32) (k : Fin 2) :
    (topG ht x).2 (ix2 r k) = BitVec.ofNat 32 (sortedFrom (rowBefore x r) ⟨k.val, by have := k.isLt; omega⟩).val := by
  unfold topG Host.topK
  dsimp only
  rw [slice_ix2 r ht hm]
  unfold Host.sort2
  rw [dif_pos (show 1 < (SW m).rank from Nat.one_lt_two)]
  exact (congrArg (fun q : (SW m).Idx => BitVec.ofNat 32 (q 1).val) (along_ix2 r _ _)).trans
    (congrArg (fun f : Fin m → Fin m → Bool => BitVec.ofNat 32 (sortedFrom f ⟨k.val, by have := k.isLt; omega⟩).val)
      (before_along r x ⟨k.val, by have := k.isLt; omega⟩))

/-- The gates at an entry: the first pick's value at the first pick, the second's at the second, zero elsewhere. -/
theorem gatesG_apply (d : ScatterDims (SW m) S8192x2x2 S8192x2) (hiw : d.insertedWindowDims = [0, 1])
    (hsd : d.scatterDimsToOperandDims = [0, 1]) (hivd : d.indexVectorDim = 2) (hm : m ≤ 36) (h0 : S_.BroadcastsInDim (SW m) ![])
    (n : BitVec 32) (i : IVec S8192x2 32) (top : FVec Ideal S8192x2 .f32) (p : Fin 8192 → Fin 2 → Fin m)
    (hp : ∀ r k, i (ix2 r k) = BitVec.ofNat 32 (p r k).val) (j : Fin m) :
    gatesG d h0 n i top (ix2 r j) = if j = p r 1 then top (ix2 r 1) else if j = p r 0 then top (ix2 r 0) else (0 : EReal) := by
  have small : ∀ q : Fin m, q.val < 2 ^ 31 := fun q => by have := q.isLt; omega
  have hz : broadcastInDim (SW m) ![] h0 (constant (F := Ideal) S_ .f32 0x00000000#32) (ix2 r j) = (0 : EReal) := by
    pointwise []
  have key := ScatterToDense.scatter_eq_GS (T := 8192) (C := m) (K := 2) d hiw hsd hivd (by norm_num) (by omega)
    (broadcastInDim (SW m) ![] h0 (constant (F := Ideal) S_ .f32 0x00000000#32)) (placesG n i) top
    (fun r k => BitVec.ofNat 32 (p r (if k = 0 then 0 else 1)).val) (fun r k => top (ix2 r (if k = 0 then 0 else 1)))
    (fun r k => by rw [← ix3_eq_valueIdx]; exact placesG_row r n i k)
    (fun r k => by
      rw [← ix3_eq_valueIdx, placesG_pick r n i k (small (p r k)) (hp r k)]
      fin_cases k <;> rfl)
    (fun r k => by rw [← ix2_eq_valueIdx]; fin_cases k <;> rfl) r j
  rw [← ix2_eq_valueIdx] at key
  unfold gatesG
  rw [key, hz]
  have nat : ∀ q : Fin m, (BitVec.ofNat 32 q.val).toNat = q.val := fun q => by
    rw [BitVec.toNat_ofNat, Nat.mod_eq_of_lt (by have := small q; omega)]
  rw [ScatterToDense.GS_succ, ScatterToDense.GS_succ, ScatterToDense.GS_zero]
  simp only [nat, Fin.ext_iff, one_ne_zero, if_true, if_false]

/-! ## A group of two or more lanes -/

/-- The lane of the row that comes `k`-th (0 or 1) in the sort of a group. -/
def pickG (hm : 2 ≤ m) (x : FVec Ideal (SW m) .f32) (r : Fin 8192) (k : Fin 2) : Fin m :=
  sortedFrom (rowBefore x r) ⟨k.val, by have := k.isLt; omega⟩

variable {r} {lo : ℕ} {row : Fin 36 → EReal} {x : FVec Ideal (SW m) .f32}

theorem group_picks (h : lo + m ≤ 36) (hm : 2 ≤ m) (hx : ∀ j : Fin m, x (ix2 r j) = row (lift h j)) :
    Picks row lo (lo + m) (lift h (pickG hm x r 0)) (lift h (pickG hm x r 1)) :=
  picks_sorted h hm fun a b => by rw [rowBefore_iff, hx, hx]

theorem sum_two (F : Fin 2 → EReal) : ∑ k : Fin 2, F k = F 0 + F 1 := Fin.sum_univ_two F

/-- The softmax of a group's two picks. -/
theorem soft_top (ht : (SW m).Slices (fun _ => 0) S8192x2) (h1 : (SW 2).ReducesTo [1] S8192)
    (h2 : S8192x1.BroadcastsInDim (SW 2) ![0, 1]) (h : lo + m ≤ 36) (hm : 2 ≤ m) (hx : ∀ j : Fin m, x (ix2 r j) = row (lift h j))
    (hg : AllReal row) :
    softG h1 h2 (topG ht x).1 (ix2 r 0) = shareOf (row (lift h (pickG hm x r 0))) (row (lift h (pickG hm x r 1)))
    ∧ softG h1 h2 (topG ht x).1 (ix2 r 1) = 1 - shareOf (row (lift h (pickG hm x r 0))) (row (lift h (pickG hm x r 1))) := by
  have hp := group_picks h hm hx
  have v : ∀ k : Fin 2, (topG ht x).1 (ix2 r k) = row (lift h (pickG hm x r k)) := fun k => by rw [topG_val r ht hm, hx]; rfl
  have hmax : maxG h1 (topG ht x).1 (ix1 r) = row (lift h (pickG hm x r 0)) := by
    rw [maxG_apply, ← v 0]
    refine fold_max_eq (fun k : Fin 2 => (topG ht x).1 (ix2 r k)) 0 fun k => ?_
    rw [v, v]
    fin_cases k
    · exact le_rfl
    · exact (hp.first _ hp.b_in hp.ne).le
  obtain ⟨u, hu⟩ := hg (lift h (pickG hm x r 0))
  obtain ⟨w, hw⟩ := hg (lift h (pickG hm x r 1))
  constructor
  · rw [softG_apply, sum_two, hmax, v, v, hu, hw, softmax2_first]
  · rw [softG_apply, sum_two, hmax, v, v, hu, hw, softmax2_second]

/-- The reference's gates of a group. -/
theorem group_gates (d : ScatterDims (SW m) S8192x2x2 S8192x2) (hiw : d.insertedWindowDims = [0, 1])
    (hsd : d.scatterDimsToOperandDims = [0, 1]) (hivd : d.indexVectorDim = 2) (h0 : S_.BroadcastsInDim (SW m) ![]) (n : BitVec 32)
    (ht : (SW m).Slices (fun _ => 0) S8192x2) (h1 : (SW 2).ReducesTo [1] S8192)
    (h2 : S8192x1.BroadcastsInDim (SW 2) ![0, 1]) (h : lo + m ≤ 36) (hm : 2 ≤ m) (hx : ∀ j : Fin m, x (ix2 r j) = row (lift h j))
    (hg : AllReal row) (j : Fin m) :
    gatesG d h0 n (topG ht x).2 (softG h1 h2 (topG ht x).1) (ix2 r j)
      = gateAt row (lift h (pickG hm x r 0)) (lift h (pickG hm x r 1)) (lift h j) := by
  have hp := group_picks h hm hx
  obtain ⟨t0, t1⟩ := soft_top ht h1 h2 h hm hx hg
  rw [gatesG_apply r d hiw hsd hivd (by omega) h0 n _ _ (fun r k => pickG hm x r k) (fun r k => topG_lane r ht hm x k) j, t0, t1]
  unfold gateAt
  simp only [lift_inj]
  have hne : pickG hm x r 1 ≠ pickG hm x r 0 := fun e => hp.ne (by rw [e])
  by_cases e1 : j = pickG hm x r 1
  · rw [if_pos e1, if_neg (by rw [e1]; exact hne), if_pos e1]
  · rw [if_neg e1, if_neg e1]

/-- The reference's one-hot marks of a group. -/
theorem group_hot (hi : S8192x2x1.BroadcastsInDim (SH m) ![0, 1, 2]) (hc : (SI m).BroadcastsInDim (SH m) ![0, 1, 2])
    (hr : (SH m).ReducesTo [1] (SW m)) (ht : (SW m).Slices (fun _ => 0) S8192x2) (h : lo + m ≤ 36) (hm : 2 ≤ m)
    (hx : ∀ j : Fin m, x (ix2 r j) = row (lift h j)) (j : Fin m) :
    hotG hi hc hr (topG ht x).2 (ix2 r j) = hotAt (lift h (pickG hm x r 0)) (lift h (pickG hm x r 1)) (lift h j) := by
  have hp := group_picks h hm hx
  have small : ∀ q : Fin m, q.val < 2 ^ 32 := fun q => by have := q.isLt; omega
  have v : ∀ k : Fin 2, (topG ht x).2 (ix2 r k) = BitVec.ofNat 32 (pickG hm x r k).val := fun k => topG_lane r ht hm x k
  rw [hotG_apply, sum_two, v, v, uitofp_eq_word (small _) (small _), uitofp_eq_word (small _) (small _)]
  unfold hotAt
  simp only [lift_inj, ← Fin.ext_iff]
  have hne : pickG hm x r 1 ≠ pickG hm x r 0 := fun e => hp.ne (by rw [e])
  by_cases e0 : pickG hm x r 0 = j
  · rw [if_pos e0, if_neg (by rw [← e0]; exact hne), if_pos (.inl e0.symm), add_zero]
  · by_cases e1 : pickG hm x r 1 = j
    · rw [if_neg e0, if_pos e1, if_pos (.inr e1.symm), zero_add]
    · rw [if_neg e0, if_neg e1, if_neg (by rintro (e | e); exacts [e0 e.symm, e1 e.symm]), add_zero]

/-- The reference's softmax of a group. -/
theorem group_soft (h1 : (SW m).ReducesTo [1] S8192) (h2 : S8192x1.BroadcastsInDim (SW m) ![0, 1]) (h : lo + m ≤ 36) (hm : 2 ≤ m)
    (hx : ∀ j : Fin m, x (ix2 r j) = row (lift h j)) (j : Fin m) :
    softG h1 h2 x (ix2 r j) = softAt row lo (lo + m) (lift h (pickG hm x r 0)) (lift h j) := by
  have hp := group_picks h hm hx
  have hmax : maxG h1 x (ix1 r) = row (lift h (pickG hm x r 0)) := by
    rw [maxG_apply, ← hx]
    refine fold_max_eq (fun k : Fin m => x (ix2 r k)) _ fun k => ?_
    rw [hx, hx]
    by_cases e : lift h k = lift h (pickG hm x r 0)
    · rw [e]
    · exact (hp.first _ ⟨Nat.le_add_right _ _, Nat.add_lt_add_left k.isLt _⟩ e).le
  rw [softG_apply, hmax]
  unfold softAt expSum
  rw [sum_group h fun c => Ideal.exp (row c - row (lift h (pickG hm x r 0)))]
  simp only [hx]

/-! ## The group of one lane -/

/-- The one entry of each row, and its lane. -/
abbrev top1 (x : FVec Ideal S8192x1 .f32) : FVec Ideal S8192x1 .f32 × IVec S8192x1 32 :=
  Host.topK S8192x1 1 (FloatOps.cmpfTotal (F := Ideal) (φ := .f32) .gt) x sliceFits_S8192x1_S8192x1

/-- A one-entry row's exponential against itself. -/
def exp1 (x : FVec Ideal S8192x1 .f32) : FVec Ideal S8192x1 .f32 :=
  Host.exp (subf x (broadcastInDim S8192x1 ![0] bcast_S8192_S8192x1_0 (maxG (m := 1) reducesTo_S8192x1_S8192_d1 x)))

/-- A one-entry row's softmax. -/
def soft1 (x : FVec Ideal S8192x1 .f32) : FVec Ideal S8192x1 .f32 :=
  Host.divf (exp1 x) (broadcastInDim S8192x1 ![0] bcast_S8192_S8192x1_0
    (Host.reduceAdd (exp1 x) (constant S_ .f32 0x00000000#32) reducesTo_S8192x1_S8192_d1 h_S_))

/-- The picks after the wrap of negative ones. -/
def picksWrapped1 (i : IVec S8192x1 32) : IVec S8192x1 32 :=
  select (cmpi .slt i (broadcastInDim S8192x1 ![] bcast_S_S8192x1 (constantI S_ 32 0#32)))
    (addi i (broadcastInDim S8192x1 ![] bcast_S_S8192x1 (constantI S_ 32 1#32))) i

/-- The pairs (row, pick) at which the gates are written. -/
def places1 (i : IVec S8192x1 32) : IVec S8192x1x2 32 :=
  concatenate S8192x1x2 2
    [⟨S8192x1x1, broadcastInDim S8192x1x1 ![0, 1] bcast_S8192x1_S8192x1x1_0_1 rowsWrapped⟩,
     ⟨S8192x1x1, broadcastInDim S8192x1x1 ![0, 1] bcast_S8192x1_S8192x1x1_0_1 (picksWrapped1 i)⟩]
    concatenates_S8192x1x1_S8192x1x1_S8192x1x2_d2

def gates1 (i : IVec S8192x1 32) (top : FVec Ideal S8192x1 .f32) : FVec Ideal S8192x1 .f32 :=
  Host.scatter scatter_S8192x1_S8192x1x2_S8192x1_n_01_01_2 (fun _ b => b)
    (broadcastInDim S8192x1 ![] bcast_S_S8192x1 (constant S_ .f32 0x00000000#32)) (places1 i) top

def marks1 (i : IVec S8192x1 32) : FVec Ideal S8192x1x1 .f32 :=
  uitofp .f32 (cmpi .eq (broadcastInDim S8192x1x1 ![0, 1] bcast_S8192x1_S8192x1x1_0_1 i)
    (broadcastInDim S8192x1x1 ![0, 1, 2] bcast_S1x1x1_S8192x1x1_0_1_2 (iotaInDim S1x1x1 32 2)))

def hot1 (i : IVec S8192x1 32) : FVec Ideal S8192x1 .f32 :=
  Host.reduceAdd (marks1 i) (constant S_ .f32 0x00000000#32) reducesTo_S8192x1x1_S8192x1_d1 h_S_

theorem soft1_apply (r : Fin 8192) (x : FVec Ideal S8192x1 .f32) {v : ℝ} (hv : x (ix2 r 0) = (v : EReal)) : soft1 x (ix2 r 0) = (1 : EReal) := by
  have hmax : maxG (m := 1) reducesTo_S8192x1_S8192_d1 x (ix1 r) = x (ix2 r 0) := by
    rw [maxG_apply]
    exact fold_max_eq (fun k : Fin 1 => x (ix2 r k)) 0 fun k => by rw [Fin.fin_one_eq_zero k]
  have he : exp1 x (ix2 r 0) = (1 : EReal) := by
    pointwise [exp1]
    rw [hmax, hv, ← EReal.coe_sub, sub_self, exp_coe, Real.exp_zero, EReal.coe_one]
  pointwise [soft1]
  rw [Fin.sum_univ_one, he]
  have := div_coe 1 1 one_ne_zero
  rwa [EReal.coe_one, div_one, EReal.coe_one] at this

theorem one_col (q : S8192x1.Idx) (h : (q 0).val = r.val) : q = ix2 r 0 := by
  funext a
  fin_cases a
  · exact Fin.ext h
  · exact Fin.ext (Nat.lt_one_iff.1 (q 1).isLt)

theorem top1_lane (r : Fin 8192) (x : FVec Ideal S8192x1 .f32) : (top1 x).2 (ix2 r 0) = BitVec.ofNat 32 0 := by
  unfold top1 Host.topK
  dsimp only
  unfold extractStridedSlice Host.sort2
  rw [dif_pos (show 1 < S8192x1.rank from Nat.one_lt_two)]
  refine congrArg (BitVec.ofNat 32) (Nat.lt_one_iff.1 ?_)
  exact Fin.isLt (n := 1) _

theorem top1_val (r : Fin 8192) (x : FVec Ideal S8192x1 .f32) : (top1 x).1 (ix2 r 0) = x (ix2 r 0) := by
  unfold top1 Host.topK
  dsimp only
  unfold extractStridedSlice Host.sort2
  rw [dif_pos (show 1 < S8192x1.rank from Nat.one_lt_two)]
  refine congrArg x (one_col _ ?_)
  exact Nat.zero_add _

theorem hot1_apply (r : Fin 8192) (i : IVec S8192x1 32) (hi : i (ix2 r 0) = BitVec.ofNat 32 0) : hot1 i (ix2 r 0) = (1 : EReal) := by
  pointwise [hot1, marks1]
  rw [Fin.sum_univ_one, hi, uitofp_eq_word (by norm_num) (by norm_num), if_pos rfl]

theorem gates1_apply (i : IVec S8192x1 32) (top : FVec Ideal S8192x1 .f32) (hi : ∀ r, i (ix2 r 0) = BitVec.ofNat 32 0) (r : Fin 8192) :
    gates1 i top (ix2 r 0) = top (ix2 r 0) := by
  have key := ScatterToDense.scatter_eq_GS (T := 8192) (C := 1) (K := 1) scatter_S8192x1_S8192x1x2_S8192x1_n_01_01_2 rfl rfl rfl
    (by norm_num) (by norm_num)
    (broadcastInDim S8192x1 ![] bcast_S_S8192x1 (constant (F := Ideal) S_ .f32 0x00000000#32)) (places1 i) top
    (fun _ _ => BitVec.ofNat 32 0) (fun r _ => top (ix2 r 0))
    (fun r k => by
      rw [← ix3_eq_valueIdx, Fin.fin_one_eq_zero k]
      have hr := r.isLt
      pointwise [places1, rowsWrapped, rowsG]
      exact wrap_small (by omega) _)
    (fun r k => by
      rw [← ix3_eq_valueIdx, Fin.fin_one_eq_zero k]
      pointwise [places1, picksWrapped1]
      rw [hi]
      exact wrap_small (by norm_num) _)
    (fun r k => by rw [← ix2_eq_valueIdx, Fin.fin_one_eq_zero k]) r 0
  rw [← ix2_eq_valueIdx] at key
  unfold gates1
  rw [key]
  exact ScatterToDense.GS_succ_hit (n := 0) rfl

end Cert.GateRef

end
-- ==== Proof.RefRead.lean ====
/- The reference's three gating results, one routing group at a time: the generated read of each operation, folded into the group's
   functions. -/
module

public import proofs.«01_k».proof.Proof.RefGroup
public import proofs.«01_k».proof.Proof.Gen.ReferenceIdeal.Read

@[expose] public section

noncomputable section

namespace Cert.GateRef

open Idealize.ShloMosaic Cert.ReferenceIdeal Cert.ReferenceIdeal.Gen Cert.ReferenceIdeal.Read Cert.Gate

variable (x1 : FVec Ideal S8192x1024 .f32) (x6 : FVec Ideal S512x1024 .f32) (x7 : FVec Ideal S512 .f32) (x8 : FVec Ideal S36x512 .f32) (x9 : FVec Ideal S36 .f32)

theorem gates2_eq : val_main_v84 (F := Ideal) x1 x6 x7 x8 x9 = gatesG (m := 2) scatter_S8192x2_S8192x2x2_S8192x2_n_01_01_2 bcast_S_S8192x2 2#32
    (topG sliceFits_S8192x2_S8192x2 (val_main_v12 (F := Ideal) x1 x6 x7 x8 x9)).2
    (softG reducesTo_S8192x2_S8192_d1 bcast_S8192x1_S8192x2_0_1 (topG sliceFits_S8192x2_S8192x2 (val_main_v12 (F := Ideal) x1 x6 x7 x8 x9)).1) := rfl

theorem hot2_eq : val_main_v86 (F := Ideal) x1 x6 x7 x8 x9 = hotG (m := 2) bcast_S8192x2x1_S8192x2x2_0_1_2 bcast_S1x1x2_S8192x2x2_0_1_2
    reducesTo_S8192x2x2_S8192x2_d1 (topG sliceFits_S8192x2_S8192x2 (val_main_v12 (F := Ideal) x1 x6 x7 x8 x9)).2 := rfl

theorem soft2_eq : val_main_v97 (F := Ideal) x1 x6 x7 x8 x9 = softG (m := 2) reducesTo_S8192x2_S8192_d1 bcast_S8192x1_S8192x2_0_1
    (val_main_v12 (F := Ideal) x1 x6 x7 x8 x9) := rfl

theorem gates3_eq : val_main_v126 (F := Ideal) x1 x6 x7 x8 x9 = gatesG (m := 3) scatter_S8192x3_S8192x2x2_S8192x2_n_01_01_2 bcast_S_S8192x3 3#32
    (topG sliceFits_S8192x3_S8192x2 (val_main_v13 (F := Ideal) x1 x6 x7 x8 x9)).2
    (softG reducesTo_S8192x2_S8192_d1 bcast_S8192x1_S8192x2_0_1 (topG sliceFits_S8192x3_S8192x2 (val_main_v13 (F := Ideal) x1 x6 x7 x8 x9)).1) := rfl

theorem hot3_eq : val_main_v128 (F := Ideal) x1 x6 x7 x8 x9 = hotG (m := 3) bcast_S8192x2x1_S8192x2x3_0_1_2 bcast_S1x1x3_S8192x2x3_0_1_2
    reducesTo_S8192x2x3_S8192x3_d1 (topG sliceFits_S8192x3_S8192x2 (val_main_v13 (F := Ideal) x1 x6 x7 x8 x9)).2 := rfl

theorem soft3_eq : val_main_v139 (F := Ideal) x1 x6 x7 x8 x9 = softG (m := 3) reducesTo_S8192x3_S8192_d1 bcast_S8192x1_S8192x3_0_1
    (val_main_v13 (F := Ideal) x1 x6 x7 x8 x9) := rfl

theorem gates4_eq : val_main_v168 (F := Ideal) x1 x6 x7 x8 x9 = gatesG (m := 4) scatter_S8192x4_S8192x2x2_S8192x2_n_01_01_2 bcast_S_S8192x4 4#32
    (topG sliceFits_S8192x4_S8192x2 (val_main_v14 (F := Ideal) x1 x6 x7 x8 x9)).2
    (softG reducesTo_S8192x2_S8192_d1 bcast_S8192x1_S8192x2_0_1 (topG sliceFits_S8192x4_S8192x2 (val_main_v14 (F := Ideal) x1 x6 x7 x8 x9)).1) := rfl

theorem hot4_eq : val_main_v170 (F := Ideal) x1 x6 x7 x8 x9 = hotG (m := 4) bcast_S8192x2x1_S8192x2x4_0_1_2 bcast_S1x1x4_S8192x2x4_0_1_2
    reducesTo_S8192x2x4_S8192x4_d1 (topG sliceFits_S8192x4_S8192x2 (val_main_v14 (F := Ideal) x1 x6 x7 x8 x9)).2 := rfl

theorem soft4_eq : val_main_v181 (F := Ideal) x1 x6 x7 x8 x9 = softG (m := 4) reducesTo_S8192x4_S8192_d1 bcast_S8192x1_S8192x4_0_1
    (val_main_v14 (F := Ideal) x1 x6 x7 x8 x9) := rfl

theorem gates5_eq : val_main_v210 (F := Ideal) x1 x6 x7 x8 x9 = gatesG (m := 5) scatter_S8192x5_S8192x2x2_S8192x2_n_01_01_2 bcast_S_S8192x5 5#32
    (topG sliceFits_S8192x5_S8192x2 (val_main_v15 (F := Ideal) x1 x6 x7 x8 x9)).2
    (softG reducesTo_S8192x2_S8192_d1 bcast_S8192x1_S8192x2_0_1 (topG sliceFits_S8192x5_S8192x2 (val_main_v15 (F := Ideal) x1 x6 x7 x8 x9)).1) := rfl

theorem hot5_eq : val_main_v212 (F := Ideal) x1 x6 x7 x8 x9 = hotG (m := 5) bcast_S8192x2x1_S8192x2x5_0_1_2 bcast_S1x1x5_S8192x2x5_0_1_2
    reducesTo_S8192x2x5_S8192x5_d1 (topG sliceFits_S8192x5_S8192x2 (val_main_v15 (F := Ideal) x1 x6 x7 x8 x9)).2 := rfl

theorem soft5_eq : val_main_v223 (F := Ideal) x1 x6 x7 x8 x9 = softG (m := 5) reducesTo_S8192x5_S8192_d1 bcast_S8192x1_S8192x5_0_1
    (val_main_v15 (F := Ideal) x1 x6 x7 x8 x9) := rfl

theorem gates6_eq : val_main_v252 (F := Ideal) x1 x6 x7 x8 x9 = gatesG (m := 6) scatter_S8192x6_S8192x2x2_S8192x2_n_01_01_2 bcast_S_S8192x6 6#32
    (topG sliceFits_S8192x6_S8192x2 (val_main_v16 (F := Ideal) x1 x6 x7 x8 x9)).2
    (softG reducesTo_S8192x2_S8192_d1 bcast_S8192x1_S8192x2_0_1 (topG sliceFits_S8192x6_S8192x2 (val_main_v16 (F := Ideal) x1 x6 x7 x8 x9)).1) := rfl

theorem hot6_eq : val_main_v254 (F := Ideal) x1 x6 x7 x8 x9 = hotG (m := 6) bcast_S8192x2x1_S8192x2x6_0_1_2 bcast_S1x1x6_S8192x2x6_0_1_2
    reducesTo_S8192x2x6_S8192x6_d1 (topG sliceFits_S8192x6_S8192x2 (val_main_v16 (F := Ideal) x1 x6 x7 x8 x9)).2 := rfl

theorem soft6_eq : val_main_v265 (F := Ideal) x1 x6 x7 x8 x9 = softG (m := 6) reducesTo_S8192x6_S8192_d1 bcast_S8192x1_S8192x6_0_1
    (val_main_v16 (F := Ideal) x1 x6 x7 x8 x9) := rfl

theorem gates7_eq : val_main_v294 (F := Ideal) x1 x6 x7 x8 x9 = gatesG (m := 7) scatter_S8192x7_S8192x2x2_S8192x2_n_01_01_2 bcast_S_S8192x7 7#32
    (topG sliceFits_S8192x7_S8192x2 (val_main_v17 (F := Ideal) x1 x6 x7 x8 x9)).2
    (softG reducesTo_S8192x2_S8192_d1 bcast_S8192x1_S8192x2_0_1 (topG sliceFits_S8192x7_S8192x2 (val_main_v17 (F := Ideal) x1 x6 x7 x8 x9)).1) := rfl

theorem hot7_eq : val_main_v296 (F := Ideal) x1 x6 x7 x8 x9 = hotG (m := 7) bcast_S8192x2x1_S8192x2x7_0_1_2 bcast_S1x1x7_S8192x2x7_0_1_2
    reducesTo_S8192x2x7_S8192x7_d1 (topG sliceFits_S8192x7_S8192x2 (val_main_v17 (F := Ideal) x1 x6 x7 x8 x9)).2 := rfl

theorem soft7_eq : val_main_v307 (F := Ideal) x1 x6 x7 x8 x9 = softG (m := 7) reducesTo_S8192x7_S8192_d1 bcast_S8192x1_S8192x7_0_1
    (val_main_v17 (F := Ideal) x1 x6 x7 x8 x9) := rfl

theorem gates8_eq : val_main_v336 (F := Ideal) x1 x6 x7 x8 x9 = gatesG (m := 8) scatter_S8192x8_S8192x2x2_S8192x2_n_01_01_2 bcast_S_S8192x8 8#32
    (topG sliceFits_S8192x8_S8192x2 (val_main_v18 (F := Ideal) x1 x6 x7 x8 x9)).2
    (softG reducesTo_S8192x2_S8192_d1 bcast_S8192x1_S8192x2_0_1 (topG sliceFits_S8192x8_S8192x2 (val_main_v18 (F := Ideal) x1 x6 x7 x8 x9)).1) := rfl

theorem hot8_eq : val_main_v338 (F := Ideal) x1 x6 x7 x8 x9 = hotG (m := 8) bcast_S8192x2x1_S8192x2x8_0_1_2 bcast_S1x1x8_S8192x2x8_0_1_2
    reducesTo_S8192x2x8_S8192x8_d1 (topG sliceFits_S8192x8_S8192x2 (val_main_v18 (F := Ideal) x1 x6 x7 x8 x9)).2 := rfl

theorem soft8_eq : val_main_v349 (F := Ideal) x1 x6 x7 x8 x9 = softG (m := 8) reducesTo_S8192x8_S8192_d1 bcast_S8192x1_S8192x8_0_1
    (val_main_v18 (F := Ideal) x1 x6 x7 x8 x9) := rfl
theorem gates1_eq : val_main_v44 (F := Ideal) x1 x6 x7 x8 x9 = gates1 (top1 (val_main_v11 (F := Ideal) x1 x6 x7 x8 x9)).2 (soft1 (top1 (val_main_v11 (F := Ideal) x1 x6 x7 x8 x9)).1) := rfl

theorem hot1_eq : val_main_v46 (F := Ideal) x1 x6 x7 x8 x9 = hot1 (top1 (val_main_v11 (F := Ideal) x1 x6 x7 x8 x9)).2 := rfl

theorem soft1_eq : val_main_v55 (F := Ideal) x1 x6 x7 x8 x9 = soft1 (val_main_v11 (F := Ideal) x1 x6 x7 x8 x9) := rfl

/-- The eight groups side by side. -/
def joinG (y1 : FVec Ideal S8192x1 .f32) (y2 : FVec Ideal S8192x2 .f32) (y3 : FVec Ideal S8192x3 .f32) (y4 : FVec Ideal S8192x4 .f32)
    (y5 : FVec Ideal S8192x5 .f32) (y6 : FVec Ideal S8192x6 .f32) (y7 : FVec Ideal S8192x7 .f32) (y8 : FVec Ideal S8192x8 .f32) :
    FVec Ideal S8192x36 .f32 :=
  concatenate S8192x36 1 [⟨S8192x1, y1⟩, ⟨S8192x2, y2⟩, ⟨S8192x3, y3⟩, ⟨S8192x4, y4⟩, ⟨S8192x5, y5⟩, ⟨S8192x6, y6⟩, ⟨S8192x7, y7⟩, ⟨S8192x8, y8⟩]
    concatenates_S8192x1_S8192x2_S8192x3_S8192x4_S8192x5_S8192x6_S8192x7_S8192x8_S8192x36_d1

theorem gates_join : val_main_v480 (F := Ideal) x1 x6 x7 x8 x9 = joinG (val_main_v44 (F := Ideal) x1 x6 x7 x8 x9) (val_main_v84 (F := Ideal) x1 x6 x7 x8 x9) (val_main_v126 (F := Ideal) x1 x6 x7 x8 x9) (val_main_v168 (F := Ideal) x1 x6 x7 x8 x9) (val_main_v210 (F := Ideal) x1 x6 x7 x8 x9) (val_main_v252 (F := Ideal) x1 x6 x7 x8 x9) (val_main_v294 (F := Ideal) x1 x6 x7 x8 x9) (val_main_v336 (F := Ideal) x1 x6 x7 x8 x9) := rfl

theorem hots_join : val_main_v481 (F := Ideal) x1 x6 x7 x8 x9 = joinG (val_main_v46 (F := Ideal) x1 x6 x7 x8 x9) (val_main_v86 (F := Ideal) x1 x6 x7 x8 x9) (val_main_v128 (F := Ideal) x1 x6 x7 x8 x9) (val_main_v170 (F := Ideal) x1 x6 x7 x8 x9) (val_main_v212 (F := Ideal) x1 x6 x7 x8 x9) (val_main_v254 (F := Ideal) x1 x6 x7 x8 x9) (val_main_v296 (F := Ideal) x1 x6 x7 x8 x9) (val_main_v338 (F := Ideal) x1 x6 x7 x8 x9) := rfl

theorem softs_join : val_main_v482 (F := Ideal) x1 x6 x7 x8 x9 = joinG (val_main_v55 (F := Ideal) x1 x6 x7 x8 x9) (val_main_v97 (F := Ideal) x1 x6 x7 x8 x9) (val_main_v139 (F := Ideal) x1 x6 x7 x8 x9) (val_main_v181 (F := Ideal) x1 x6 x7 x8 x9) (val_main_v223 (F := Ideal) x1 x6 x7 x8 x9) (val_main_v265 (F := Ideal) x1 x6 x7 x8 x9) (val_main_v307 (F := Ideal) x1 x6 x7 x8 x9) (val_main_v349 (F := Ideal) x1 x6 x7 x8 x9) := rfl

variable (y1 : FVec Ideal S8192x1 .f32) (y2 : FVec Ideal S8192x2 .f32) (y3 : FVec Ideal S8192x3 .f32) (y4 : FVec Ideal S8192x4 .f32)
  (y5 : FVec Ideal S8192x5 .f32) (y6 : FVec Ideal S8192x6 .f32) (y7 : FVec Ideal S8192x7 .f32) (y8 : FVec Ideal S8192x8 .f32) (r : Fin 8192)

theorem join1 (h : 0 + 1 ≤ 36) (j : Fin 1) : joinG y1 y2 y3 y4 y5 y6 y7 y8 (ix2 r (lift h j)) = y1 (ix2 r j) := by
  unfold joinG
  exact concatenate_apply_piece (t := S8192x36) 1 _ _ (ix2 r (lift h j)) 0 (by show 0 < 8; decide) S8192x1 y1 rfl rfl 0 rfl (ix2 r j)
    (fun b hb => by
      fin_cases b
      · rfl
      · exact absurd rfl hb) rfl

theorem join2 (h : 1 + 2 ≤ 36) (j : Fin 2) : joinG y1 y2 y3 y4 y5 y6 y7 y8 (ix2 r (lift h j)) = y2 (ix2 r j) := by
  unfold joinG
  exact concatenate_apply_piece (t := S8192x36) 1 _ _ (ix2 r (lift h j)) 1 (by show 1 < 8; decide) S8192x2 y2 rfl rfl 1 rfl (ix2 r j)
    (fun b hb => by
      fin_cases b
      · rfl
      · exact absurd rfl hb) rfl

theorem join3 (h : 3 + 3 ≤ 36) (j : Fin 3) : joinG y1 y2 y3 y4 y5 y6 y7 y8 (ix2 r (lift h j)) = y3 (ix2 r j) := by
  unfold joinG
  exact concatenate_apply_piece (t := S8192x36) 1 _ _ (ix2 r (lift h j)) 2 (by show 2 < 8; decide) S8192x3 y3 rfl rfl 3 rfl (ix2 r j)
    (fun b hb => by
      fin_cases b
      · rfl
      · exact absurd rfl hb) rfl

theorem join4 (h : 6 + 4 ≤ 36) (j : Fin 4) : joinG y1 y2 y3 y4 y5 y6 y7 y8 (ix2 r (lift h j)) = y4 (ix2 r j) := by
  unfold joinG
  exact concatenate_apply_piece (t := S8192x36) 1 _ _ (ix2 r (lift h j)) 3 (by show 3 < 8; decide) S8192x4 y4 rfl rfl 6 rfl (ix2 r j)
    (fun b hb => by
      fin_cases b
      · rfl
      · exact absurd rfl hb) rfl

theorem join5 (h : 10 + 5 ≤ 36) (j : Fin 5) : joinG y1 y2 y3 y4 y5 y6 y7 y8 (ix2 r (lift h j)) = y5 (ix2 r j) := by
  unfold joinG
  exact concatenate_apply_piece (t := S8192x36) 1 _ _ (ix2 r (lift h j)) 4 (by show 4 < 8; decide) S8192x5 y5 rfl rfl 10 rfl (ix2 r j)
    (fun b hb => by
      fin_cases b
      · rfl
      · exact absurd rfl hb) rfl

theorem join6 (h : 15 + 6 ≤ 36) (j : Fin 6) : joinG y1 y2 y3 y4 y5 y6 y7 y8 (ix2 r (lift h j)) = y6 (ix2 r j) := by
  unfold joinG
  exact concatenate_apply_piece (t := S8192x36) 1 _ _ (ix2 r (lift h j)) 5 (by show 5 < 8; decide) S8192x6 y6 rfl rfl 15 rfl (ix2 r j)
    (fun b hb => by
      fin_cases b
      · rfl
      · exact absurd rfl hb) rfl

theorem join7 (h : 21 + 7 ≤ 36) (j : Fin 7) : joinG y1 y2 y3 y4 y5 y6 y7 y8 (ix2 r (lift h j)) = y7 (ix2 r j) := by
  unfold joinG
  exact concatenate_apply_piece (t := S8192x36) 1 _ _ (ix2 r (lift h j)) 6 (by show 6 < 8; decide) S8192x7 y7 rfl rfl 21 rfl (ix2 r j)
    (fun b hb => by
      fin_cases b
      · rfl
      · exact absurd rfl hb) rfl

theorem join8 (h : 28 + 8 ≤ 36) (j : Fin 8) : joinG y1 y2 y3 y4 y5 y6 y7 y8 (ix2 r (lift h j)) = y8 (ix2 r j) := by
  unfold joinG
  exact concatenate_apply_piece (t := S8192x36) 1 _ _ (ix2 r (lift h j)) 7 (by show 7 < 8; decide) S8192x8 y8 rfl rfl 28 rfl (ix2 r j)
    (fun b hb => by
      fin_cases b
      · rfl
      · exact absurd rfl hb) rfl

theorem slice1 (h : 0 + 1 ≤ 36) (j : Fin 1) : val_main_v11 (F := Ideal) x1 x6 x7 x8 x9 (ix2 r j) = val_main_v10 (F := Ideal) x1 x6 x7 x8 x9 (ix2 r (lift h j)) := by
  rw [val_main_v11_apply]
  refine congrArg (val_main_v10 (F := Ideal) x1 x6 x7 x8 x9) (funext fun a => Fin.ext ?_)
  fin_cases a
  · rfl
  · exact (Nat.zero_add _).symm

theorem slice2 (h : 1 + 2 ≤ 36) (j : Fin 2) : val_main_v12 (F := Ideal) x1 x6 x7 x8 x9 (ix2 r j) = val_main_v10 (F := Ideal) x1 x6 x7 x8 x9 (ix2 r (lift h j)) := by
  rw [val_main_v12_apply]
  refine congrArg (val_main_v10 (F := Ideal) x1 x6 x7 x8 x9) (funext fun a => Fin.ext ?_)
  fin_cases a
  · rfl
  · rfl

theorem slice3 (h : 3 + 3 ≤ 36) (j : Fin 3) : val_main_v13 (F := Ideal) x1 x6 x7 x8 x9 (ix2 r j) = val_main_v10 (F := Ideal) x1 x6 x7 x8 x9 (ix2 r (lift h j)) := by
  rw [val_main_v13_apply]
  refine congrArg (val_main_v10 (F := Ideal) x1 x6 x7 x8 x9) (funext fun a => Fin.ext ?_)
  fin_cases a
  · rfl
  · rfl

theorem slice4 (h : 6 + 4 ≤ 36) (j : Fin 4) : val_main_v14 (F := Ideal) x1 x6 x7 x8 x9 (ix2 r j) = val_main_v10 (F := Ideal) x1 x6 x7 x8 x9 (ix2 r (lift h j)) := by
  rw [val_main_v14_apply]
  refine congrArg (val_main_v10 (F := Ideal) x1 x6 x7 x8 x9) (funext fun a => Fin.ext ?_)
  fin_cases a
  · rfl
  · rfl

theorem slice5 (h : 10 + 5 ≤ 36) (j : Fin 5) : val_main_v15 (F := Ideal) x1 x6 x7 x8 x9 (ix2 r j) = val_main_v10 (F := Ideal) x1 x6 x7 x8 x9 (ix2 r (lift h j)) := by
  rw [val_main_v15_apply]
  refine congrArg (val_main_v10 (F := Ideal) x1 x6 x7 x8 x9) (funext fun a => Fin.ext ?_)
  fin_cases a
  · rfl
  · rfl

theorem slice6 (h : 15 + 6 ≤ 36) (j : Fin 6) : val_main_v16 (F := Ideal) x1 x6 x7 x8 x9 (ix2 r j) = val_main_v10 (F := Ideal) x1 x6 x7 x8 x9 (ix2 r (lift h j)) := by
  rw [val_main_v16_apply]
  refine congrArg (val_main_v10 (F := Ideal) x1 x6 x7 x8 x9) (funext fun a => Fin.ext ?_)
  fin_cases a
  · rfl
  · rfl

theorem slice7 (h : 21 + 7 ≤ 36) (j : Fin 7) : val_main_v17 (F := Ideal) x1 x6 x7 x8 x9 (ix2 r j) = val_main_v10 (F := Ideal) x1 x6 x7 x8 x9 (ix2 r (lift h j)) := by
  rw [val_main_v17_apply]
  refine congrArg (val_main_v10 (F := Ideal) x1 x6 x7 x8 x9) (funext fun a => Fin.ext ?_)
  fin_cases a
  · rfl
  · rfl

theorem slice8 (h : 28 + 8 ≤ 36) (j : Fin 8) : val_main_v18 (F := Ideal) x1 x6 x7 x8 x9 (ix2 r j) = val_main_v10 (F := Ideal) x1 x6 x7 x8 x9 (ix2 r (lift h j)) := by
  rw [val_main_v18_apply]
  refine congrArg (val_main_v10 (F := Ideal) x1 x6 x7 x8 x9) (funext fun a => Fin.ext ?_)
  fin_cases a
  · rfl
  · rfl

end Cert.GateRef

end
-- ==== Proof.Gating.lean ====
/- The kernel's gating block and the reference's gating results, row against row: when a row of the block's logits is a row of the
   reference's logits, and those are real numbers, the gates, the one-hot marks and the softmax of the two rows agree at every lane. -/
module

public import proofs.«01_k».proof.Proof.KernelGroup
public import proofs.«01_k».proof.Proof.RefRead

@[expose] public section

noncomputable section

namespace Cert.GateRef

open Idealize.ShloMosaic Cert.ReferenceIdeal Cert.ReferenceIdeal.Gen Cert.ReferenceIdeal.Read Cert.Gate

/-- Every row has its picks in every group. -/
theorem allPicked (row : Fin 36 → EReal) : AllPicked row := by
  intro p hp
  have h1 := groups_le p hp
  have h2 : ∀ p ∈ groups, p.1 + 2 ≤ p.2 := by decide
  exact exists_picks row h1 (h2 p hp)

variable {m : ℕ} {r : Fin 8192} {t : Fin 1024} {lo : ℕ} {G : Blk} {x : FVec Ideal (SW m) .f32}

theorem gates_meet (d : ScatterDims (SW m) S8192x2x2 S8192x2) (hiw : d.insertedWindowDims = [0, 1])
    (hsd : d.scatterDimsToOperandDims = [0, 1]) (hivd : d.indexVectorDim = 2) (h0 : S_.BroadcastsInDim (SW m) ![]) (n : BitVec 32)
    (ht : (SW m).Slices (fun _ => 0) S8192x2) (h1 : (SW 2).ReducesTo [1] S8192)
    (h2 : S8192x1.BroadcastsInDim (SW 2) ![0, 1]) (h : lo + m ≤ 36) (hm : 2 ≤ m) (hmem : (lo, lo + m) ∈ groups)
    (hx : ∀ j : Fin m, x (ix2 r j) = G (ix2 t (lift h j))) (hg : AllReal fun c : Fin 36 => G (ix2 t c)) (j : Fin m) :
    allGroups gateStep G (ix2 t (lift h j)) = gatesG d h0 n (topG ht x).2 (softG h1 h2 (topG ht x).1) (ix2 r j) := by
  have hp := group_picks (row := fun c => G (ix2 t c)) h hm hx
  rw [group_gates (row := fun c => G (ix2 t c)) d hiw hsd hivd h0 n ht h1 h2 h hm hx hg]
  exact gates_at hg (allPicked _) hmem hp (lift h j) ⟨Nat.le_add_right _ _, Nat.add_lt_add_left j.isLt _⟩

theorem hot_meet (hi : S8192x2x1.BroadcastsInDim (SH m) ![0, 1, 2]) (hc : (SI m).BroadcastsInDim (SH m) ![0, 1, 2])
    (hr : (SH m).ReducesTo [1] (SW m)) (ht : (SW m).Slices (fun _ => 0) S8192x2) (h : lo + m ≤ 36) (hm : 2 ≤ m) (hmem : (lo, lo + m) ∈ groups)
    (hx : ∀ j : Fin m, x (ix2 r j) = G (ix2 t (lift h j))) (hg : AllReal fun c : Fin 36 => G (ix2 t c)) (j : Fin m) :
    allGroups hotStep G (ix2 t (lift h j)) = hotG hi hc hr (topG ht x).2 (ix2 r j) := by
  have hp := group_picks (row := fun c => G (ix2 t c)) h hm hx
  rw [group_hot (row := fun c => G (ix2 t c)) hi hc hr ht h hm hx]
  exact hots_at hg (allPicked _) hmem hp (lift h j) ⟨Nat.le_add_right _ _, Nat.add_lt_add_left j.isLt _⟩

theorem soft_meet (h1 : (SW m).ReducesTo [1] S8192) (h2 : S8192x1.BroadcastsInDim (SW m) ![0, 1]) (h : lo + m ≤ 36) (hm : 2 ≤ m)
    (hmem : (lo, lo + m) ∈ groups) (hx : ∀ j : Fin m, x (ix2 r j) = G (ix2 t (lift h j)))
    (hg : AllReal fun c : Fin 36 => G (ix2 t c)) (j : Fin m) :
    allGroups softStep G (ix2 t (lift h j)) = softG h1 h2 x (ix2 r j) := by
  have hp := group_picks (row := fun c => G (ix2 t c)) h hm hx
  rw [group_soft (row := fun c => G (ix2 t c)) h1 h2 h hm hx]
  exact softs_at hg (allPicked _) hmem hp (lift h j) ⟨Nat.le_add_right _ _, Nat.add_lt_add_left j.isLt _⟩

/-- A lane is lane 0 or lies in one of the groups of two or more. -/
theorem lane_cases (P : Fin 36 → Prop) (h1 : ∀ j : Fin 1, P (lift (lo := 0) (by decide) j)) (h2 : ∀ j : Fin 2, P (lift (lo := 1) (by decide) j))
    (h3 : ∀ j : Fin 3, P (lift (lo := 3) (by decide) j)) (h4 : ∀ j : Fin 4, P (lift (lo := 6) (by decide) j))
    (h5 : ∀ j : Fin 5, P (lift (lo := 10) (by decide) j)) (h6 : ∀ j : Fin 6, P (lift (lo := 15) (by decide) j))
    (h7 : ∀ j : Fin 7, P (lift (lo := 21) (by decide) j)) (h8 : ∀ j : Fin 8, P (lift (lo := 28) (by decide) j)) (c : Fin 36) : P c := by
  have use : ∀ {lo m : ℕ} (h : lo + m ≤ 36), (∀ j : Fin m, P (lift h j)) → lo ≤ c.val → c.val < lo + m → P c := by
    intro lo m h hj hlo hhi
    obtain ⟨j, rfl⟩ := exists_lift h c ⟨hlo, hhi⟩
    exact hj j
  have hc := c.isLt
  by_cases c1 : c.val < 1
  · exact use (lo := 0) _ h1 (by omega) (by omega)
  by_cases c2 : c.val < 3
  · exact use (lo := 1) _ h2 (by omega) (by omega)
  by_cases c3 : c.val < 6
  · exact use (lo := 3) _ h3 (by omega) (by omega)
  by_cases c4 : c.val < 10
  · exact use (lo := 6) _ h4 (by omega) (by omega)
  by_cases c5 : c.val < 15
  · exact use (lo := 10) _ h5 (by omega) (by omega)
  by_cases c6 : c.val < 21
  · exact use (lo := 15) _ h6 (by omega) (by omega)
  by_cases c7 : c.val < 28
  · exact use (lo := 21) _ h7 (by omega) (by omega)
  · exact use (lo := 28) _ h8 (by omega) (by omega)

variable {x1 : FVec Ideal S8192x1024 .f32} {x6 : FVec Ideal S512x1024 .f32} {x7 : FVec Ideal S512 .f32} {x8 : FVec Ideal S36x512 .f32}
  {x9 : FVec Ideal S36 .f32}

/-- The two rows' gates agree. -/
theorem gates_row (hG : ∀ c : Fin 36, val_main_v10 (F := Ideal) x1 x6 x7 x8 x9 (ix2 r c) = G (ix2 t c))
    (hg : AllReal fun c : Fin 36 => G (ix2 t c)) (c : Fin 36) :
    allGroups gateStep G (ix2 t c) = val_main_v480 (F := Ideal) x1 x6 x7 x8 x9 (ix2 r c) := by
  obtain ⟨v, hv⟩ := hg (lift (lo := 0) (m := 1) (by decide) 0)
  rw [gates_join]
  revert c
  refine lane_cases _ ?_ ?_ ?_ ?_ ?_ ?_ ?_ ?_
  · intro j
    rw [join1, Fin.fin_one_eq_zero j]
    rw [gates1_eq, gates1_apply _ _ (fun r => top1_lane r _), soft1_apply r _ (v := v)]
    · exact allGroups_zero gateStep G t _ rfl (gate_stay hg (allPicked _) _)
    · rw [top1_val, slice1 _ _ _ _ _ _ (by decide), hG]; exact hv
  · intro j
    rw [join2, gates2_eq]
    exact gates_meet _ rfl rfl rfl _ _ _ _ _ _ (by decide) (by decide) (fun j => by rw [slice2 _ _ _ _ _ _ (by decide), hG]) hg j
  · intro j
    rw [join3, gates3_eq]
    exact gates_meet _ rfl rfl rfl _ _ _ _ _ _ (by decide) (by decide) (fun j => by rw [slice3 _ _ _ _ _ _ (by decide), hG]) hg j
  · intro j
    rw [join4, gates4_eq]
    exact gates_meet _ rfl rfl rfl _ _ _ _ _ _ (by decide) (by decide) (fun j => by rw [slice4 _ _ _ _ _ _ (by decide), hG]) hg j
  · intro j
    rw [join5, gates5_eq]
    exact gates_meet _ rfl rfl rfl _ _ _ _ _ _ (by decide) (by decide) (fun j => by rw [slice5 _ _ _ _ _ _ (by decide), hG]) hg j
  · intro j
    rw [join6, gates6_eq]
    exact gates_meet _ rfl rfl rfl _ _ _ _ _ _ (by decide) (by decide) (fun j => by rw [slice6 _ _ _ _ _ _ (by decide), hG]) hg j
  · intro j
    rw [join7, gates7_eq]
    exact gates_meet _ rfl rfl rfl _ _ _ _ _ _ (by decide) (by decide) (fun j => by rw [slice7 _ _ _ _ _ _ (by decide), hG]) hg j
  · intro j
    rw [join8, gates8_eq]
    exact gates_meet _ rfl rfl rfl _ _ _ _ _ _ (by decide) (by decide) (fun j => by rw [slice8 _ _ _ _ _ _ (by decide), hG]) hg j

/-- The two rows' one-hot marks agree. -/
theorem hots_row (hG : ∀ c : Fin 36, val_main_v10 (F := Ideal) x1 x6 x7 x8 x9 (ix2 r c) = G (ix2 t c))
    (hg : AllReal fun c : Fin 36 => G (ix2 t c)) (c : Fin 36) :
    allGroups hotStep G (ix2 t c) = val_main_v481 (F := Ideal) x1 x6 x7 x8 x9 (ix2 r c) := by
  obtain ⟨v, hv⟩ := hg (lift (lo := 0) (m := 1) (by decide) 0)
  rw [hots_join]
  revert c
  refine lane_cases _ ?_ ?_ ?_ ?_ ?_ ?_ ?_ ?_
  · intro j
    rw [join1, Fin.fin_one_eq_zero j]
    rw [hot1_eq, hot1_apply r _ (top1_lane r _)]
    exact allGroups_zero hotStep G t _ rfl (hot_stay hg (allPicked _) _)
  · intro j
    rw [join2, hot2_eq]
    exact hot_meet _ _ _ _ _ (by decide) (by decide) (fun j => by rw [slice2 _ _ _ _ _ _ (by decide), hG]) hg j
  · intro j
    rw [join3, hot3_eq]
    exact hot_meet _ _ _ _ _ (by decide) (by decide) (fun j => by rw [slice3 _ _ _ _ _ _ (by decide), hG]) hg j
  · intro j
    rw [join4, hot4_eq]
    exact hot_meet _ _ _ _ _ (by decide) (by decide) (fun j => by rw [slice4 _ _ _ _ _ _ (by decide), hG]) hg j
  · intro j
    rw [join5, hot5_eq]
    exact hot_meet _ _ _ _ _ (by decide) (by decide) (fun j => by rw [slice5 _ _ _ _ _ _ (by decide), hG]) hg j
  · intro j
    rw [join6, hot6_eq]
    exact hot_meet _ _ _ _ _ (by decide) (by decide) (fun j => by rw [slice6 _ _ _ _ _ _ (by decide), hG]) hg j
  · intro j
    rw [join7, hot7_eq]
    exact hot_meet _ _ _ _ _ (by decide) (by decide) (fun j => by rw [slice7 _ _ _ _ _ _ (by decide), hG]) hg j
  · intro j
    rw [join8, hot8_eq]
    exact hot_meet _ _ _ _ _ (by decide) (by decide) (fun j => by rw [slice8 _ _ _ _ _ _ (by decide), hG]) hg j

/-- The two rows' softmaxes agree. -/
theorem softs_row (hG : ∀ c : Fin 36, val_main_v10 (F := Ideal) x1 x6 x7 x8 x9 (ix2 r c) = G (ix2 t c))
    (hg : AllReal fun c : Fin 36 => G (ix2 t c)) (c : Fin 36) :
    allGroups softStep G (ix2 t c) = val_main_v482 (F := Ideal) x1 x6 x7 x8 x9 (ix2 r c) := by
  obtain ⟨v, hv⟩ := hg (lift (lo := 0) (m := 1) (by decide) 0)
  rw [softs_join]
  revert c
  refine lane_cases _ ?_ ?_ ?_ ?_ ?_ ?_ ?_ ?_
  · intro j
    rw [join1, Fin.fin_one_eq_zero j]
    rw [soft1_eq, soft1_apply r _ (v := v)]
    · exact allGroups_zero softStep G t _ rfl (soft_stay hg (allPicked _) _)
    · rw [slice1 _ _ _ _ _ _ (by decide), hG]; exact hv
  · intro j
    rw [join2, soft2_eq]
    exact soft_meet _ _ _ (by decide) (by decide) (fun j => by rw [slice2 _ _ _ _ _ _ (by decide), hG]) hg j
  · intro j
    rw [join3, soft3_eq]
    exact soft_meet _ _ _ (by decide) (by decide) (fun j => by rw [slice3 _ _ _ _ _ _ (by decide), hG]) hg j
  · intro j
    rw [join4, soft4_eq]
    exact soft_meet _ _ _ (by decide) (by decide) (fun j => by rw [slice4 _ _ _ _ _ _ (by decide), hG]) hg j
  · intro j
    rw [join5, soft5_eq]
    exact soft_meet _ _ _ (by decide) (by decide) (fun j => by rw [slice5 _ _ _ _ _ _ (by decide), hG]) hg j
  · intro j
    rw [join6, soft6_eq]
    exact soft_meet _ _ _ (by decide) (by decide) (fun j => by rw [slice6 _ _ _ _ _ _ (by decide), hG]) hg j
  · intro j
    rw [join7, soft7_eq]
    exact soft_meet _ _ _ (by decide) (by decide) (fun j => by rw [slice7 _ _ _ _ _ _ (by decide), hG]) hg j
  · intro j
    rw [join8, soft8_eq]
    exact soft_meet _ _ _ (by decide) (by decide) (fun j => by rw [slice8 _ _ _ _ _ _ (by decide), hG]) hg j

end Cert.GateRef

end
-- ==== Proof.Logits.lean ====
/- The gating logits: the same double sum in the kernel's block and in the reference, and real numbers when the gating input, weights and
   biases are. -/
module

public import proofs.«01_k».proof.Proof.Gating
public import proofs.«01_k».proof.Pre_finite_gate

@[expose] public section

noncomputable section

namespace Cert.GateRef

open Idealize.ShloMosaic Cert.ReferenceIdeal Cert.ReferenceIdeal.Gen Cert.ReferenceIdeal.Read Cert.Gate

/-- One logit of one row: a rectified linear layer, then a linear layer. -/
def logit (v : Fin 1024 → EReal) (x6 : FVec Ideal S512x1024 .f32) (x7 : FVec Ideal S512 .f32) (x8 : FVec Ideal S36x512 .f32)
    (x9 : FVec Ideal S36 .f32) (c : Fin 36) : EReal :=
  ∑ k : Fin 512, max (∑ l : Fin 1024, v l * x6 (ix2 k l) + x7 (ix1 k)) 0 * x8 (ix2 c k) + x9 (ix1 c)

variable (x1 : FVec Ideal S8192x1024 .f32) (x6 : FVec Ideal S512x1024 .f32) (x7 : FVec Ideal S512 .f32) (x8 : FVec Ideal S36x512 .f32) (x9 : FVec Ideal S36 .f32)

theorem ref_logit (r : Fin 8192) (c : Fin 36) :
    val_main_v10 (F := Ideal) x1 x6 x7 x8 x9 (ix2 r c) = logit (fun l => x1 (ix2 r l)) x6 x7 x8 x9 c := by
  unfold logit
  pointwise [val_main_v10, val_main_v9, val_main_v8, val_main_v7, val_main_v6, val_main_v5, val_main_v4, val_main_v3, val_main_v2,
    val_main_v1, val_main_v0, val_main_call0_v0, val_main_call0_cst]

theorem block_logit (b : FVec Ideal S1024x1024 .f32) (t : Fin 1024) (c : Fin 36) :
    logits b x6 x7 x8 x9 (ix2 t c) = logit (fun l => b (ix2 t l)) x6 x7 x8 x9 c := by
  unfold logit logits
  pointwise [Cert.KernelIdeal.Gen.k0_pay3]

/-- Every entry is a real number. -/
def Reals {S : Shape} (a : FVec Ideal S .f32) : Prop := ∀ i, ∃ x : ℝ, a i = (x : EReal)

theorem real_sum {n : ℕ} (f : Fin n → EReal) (hf : ∀ k, ∃ x : ℝ, f k = (x : EReal)) : ∃ x : ℝ, ∑ k, f k = (x : EReal) := by
  choose g hg using hf
  refine ⟨∑ k, g k, ?_⟩
  simp only [hg]
  exact (map_sum (⟨⟨fun x : ℝ => (x : EReal), EReal.coe_zero⟩, EReal.coe_add⟩ : ℝ →+ EReal) g Finset.univ).symm

theorem real_mul {a b : EReal} : (∃ x : ℝ, a = x) → (∃ x : ℝ, b = x) → ∃ x : ℝ, a * b = (x : EReal)
  | ⟨x, hx⟩, ⟨y, hy⟩ => ⟨x * y, by rw [hx, hy, EReal.coe_mul]⟩

theorem real_add {a b : EReal} : (∃ x : ℝ, a = x) → (∃ x : ℝ, b = x) → ∃ x : ℝ, a + b = (x : EReal)
  | ⟨x, hx⟩, ⟨y, hy⟩ => ⟨x + y, by rw [hx, hy, EReal.coe_add]⟩

theorem real_max {a : EReal} : (∃ x : ℝ, a = x) → ∃ x : ℝ, max a 0 = (x : EReal)
  | ⟨x, hx⟩ => by
    rcases le_total a 0 with h | h
    · exact ⟨0, by rw [max_eq_right h, EReal.coe_zero]⟩
    · exact ⟨x, by rw [max_eq_left h, hx]⟩

theorem real_logit {v : Fin 1024 → EReal} {x6 : FVec Ideal S512x1024 .f32} {x7 : FVec Ideal S512 .f32} {x8 : FVec Ideal S36x512 .f32}
    {x9 : FVec Ideal S36 .f32} (hv : ∀ l, ∃ x : ℝ, v l = (x : EReal)) (h6 : Reals x6) (h7 : Reals x7) (h8 : Reals x8) (h9 : Reals x9) (c : Fin 36) :
    ∃ x : ℝ, logit v x6 x7 x8 x9 c = (x : EReal) :=
  real_add (real_sum _ fun k => real_mul (real_max (real_add (real_sum _ fun l => real_mul (hv l) (h6 _)) (h7 _))) (h8 _)) (h9 _)

theorem posInf_eq : (Ideal.ofBits .f32 0x7F800000#32 : EReal) = ⊤ := by
  simp [Ideal.ofBits, Ideal.ieee]

/-- The printed test "strictly between the two infinities", true everywhere, says every entry is a real number. -/
theorem reals_of_test {S : Shape} (a : FVec Ideal S .f32) (h0 h1 : S_.BroadcastsInDim S (![] : Fin 0 → Fin S.rank))
    (h : andi (cmpf .ogt a (broadcastInDim S ![] h0 (constant S_ .f32 0xFF800000#32)))
      (cmpf .olt a (broadcastInDim S ![] h1 (constant S_ .f32 0x7F800000#32))) = fun _ => 1#1) : Reals a := by
  intro i
  have e : Ideal.cmp .ogt (a i) (Ideal.ofBits .f32 0xFF800000#32) &&& Ideal.cmp .olt (a i) (Ideal.ofBits .f32 0x7F800000#32) = 1#1 := congrFun h i
  rw [posInf_eq, negInf_eq] at e
  generalize a i = y at e
  induction y using EReal.rec with
  | bot => simp [Ideal.cmp] at e
  | top => simp [Ideal.cmp] at e
  | coe x => exact ⟨x, rfl⟩

end Cert.GateRef
-- ==== Proof.Mixture.lean ====
/- The kernel's mixture block, one depth at a time: a linear layer with its rectifier and residual, the gated sum of the outputs so far,
   and the stored block as the eight gated sums taken in order; with the value of each at a row and a feature. -/
module

public import proofs.«01_k».proof.Proof.Gen.KernelIdeal.Frame
public import Idealize.ShloMosaic.Lib.Pointwise
public import Idealize.ShloMosaic.Lib.Pipeline.Value

@[expose] public section

noncomputable section

namespace Cert.Mixture

open Idealize.ShloMosaic Idealize.SL.Sem Cert.KernelIdeal Cert.KernelIdeal.Gen

/-- A block of 512 rows of 1024 features. -/
abbrev Act := FVec Ideal S512x1024 .f32
/-- The gates of 512 rows. -/
abbrev Gates := FVec Ideal S512x36 .f32
/-- The weights of the seven deeper layers. -/
abbrev Stack := Vec Ideal S7x1024x1024 .f32
/-- The biases of the seven deeper layers. -/
abbrev Biases := Vec Ideal S7x1024 .f32

/-- Gate column `o` of every row, copied along the features. -/
def column (g : Gates) (o : ℕ) (h : S512x36.Slices ![0, o] S512x1) : Act :=
  broadcastTo S512x1024 (extractStridedSlice S512x1 ![0, o] (shapeCast S512x36 g shapeCasts_S512x36_S512x36) h) broadcasts_S512x1_S512x1024

/-- The rectified linear layer. -/
def rectified (v : Act) (w : FVec Ideal S1024x1024 .f32) (b : FVec Ideal S1024 .f32) : Act :=
  maximumf (addf (matmul dot_S512x1024_S1024x1024_S512x1024_1_1_0_0_n_n none v w (constant S512x1024 .f32 0x00000000#32))
    (broadcastTo S512x1024 (shapeCast S1x1024 b shapeCasts_S1024_S1x1024) broadcasts_S1x1024_S512x1024))
    (broadcast S512x1024 (Scalar.ofBits .f32 0x00000000#32))

/-- One deeper layer: the rectified linear layer of its input, plus the input. -/
def deeper (v : Act) (w : Vec Ideal S1x1024x1024 .f32) (b : Vec Ideal S1x1024 .f32) : Act :=
  addf (rectified v (shapeCast S1024x1024 w shapeCasts_S1x1024x1024_S1024x1024) (shapeCast S1024 b shapeCasts_S1x1024_S1024)) v

/-- Depth 0. -/
def act0 (x0 : Act) (x2 : Vec Ideal S1024x1024 .f32) (x3 : Vec Ideal S1024 .f32) : Act := rectified x0 x2 x3

/-- The gated sum of the first 1 output. -/
def mix1 (x0 : Act) (x1 : Gates) (x2 : Vec Ideal S1024x1024 .f32) (x3 : Vec Ideal S1024 .f32) (x4 : Stack) (x5 : Biases) : Act :=
  mulf (act0 x0 x2 x3) (column x1 0 slices_S512x36_o0_0_S512x1)

/-- Depth 1. -/
def act1 (x0 : Act) (x1 : Gates) (x2 : Vec Ideal S1024x1024 .f32) (x3 : Vec Ideal S1024 .f32) (x4 : Stack) (x5 : Biases) : Act := deeper (mix1 x0 x1 x2 x3 x4 x5) (View.ld x4 r1_4) (View.ld x5 r1_5)

/-- The gated sum of the first 2 outputs. -/
def mix2 (x0 : Act) (x1 : Gates) (x2 : Vec Ideal S1024x1024 .f32) (x3 : Vec Ideal S1024 .f32) (x4 : Stack) (x5 : Biases) : Act :=
  addf (mulf (act0 x0 x2 x3) (column x1 1 slices_S512x36_o0_1_S512x1))
    (mulf (act1 x0 x1 x2 x3 x4 x5) (column x1 2 slices_S512x36_o0_2_S512x1))

/-- Depth 2. -/
def act2 (x0 : Act) (x1 : Gates) (x2 : Vec Ideal S1024x1024 .f32) (x3 : Vec Ideal S1024 .f32) (x4 : Stack) (x5 : Biases) : Act := deeper (mix2 x0 x1 x2 x3 x4 x5) (View.ld x4 r1_6) (View.ld x5 r1_7)

/-- The gated sum of the first 3 outputs. -/
def mix3 (x0 : Act) (x1 : Gates) (x2 : Vec Ideal S1024x1024 .f32) (x3 : Vec Ideal S1024 .f32) (x4 : Stack) (x5 : Biases) : Act :=
  addf (addf (mulf (act0 x0 x2 x3) (column x1 3 slices_S512x36_o0_3_S512x1))
    (mulf (act1 x0 x1 x2 x3 x4 x5) (column x1 4 slices_S512x36_o0_4_S512x1)))
    (mulf (act2 x0 x1 x2 x3 x4 x5) (column x1 5 slices_S512x36_o0_5_S512x1))

/-- Depth 3. -/
def act3 (x0 : Act) (x1 : Gates) (x2 : Vec Ideal S1024x1024 .f32) (x3 : Vec Ideal S1024 .f32) (x4 : Stack) (x5 : Biases) : Act := deeper (mix3 x0 x1 x2 x3 x4 x5) (View.ld x4 r1_8) (View.ld x5 r1_9)

/-- The gated sum of the first 4 outputs. -/
def mix4 (x0 : Act) (x1 : Gates) (x2 : Vec Ideal S1024x1024 .f32) (x3 : Vec Ideal S1024 .f32) (x4 : Stack) (x5 : Biases) : Act :=
  addf (addf (addf (mulf (act0 x0 x2 x3) (column x1 6 slices_S512x36_o0_6_S512x1))
    (mulf (act1 x0 x1 x2 x3 x4 x5) (column x1 7 slices_S512x36_o0_7_S512x1)))
    (mulf (act2 x0 x1 x2 x3 x4 x5) (column x1 8 slices_S512x36_o0_8_S512x1)))
    (mulf (act3 x0 x1 x2 x3 x4 x5) (column x1 9 slices_S512x36_o0_9_S512x1))

/-- Depth 4. -/
def act4 (x0 : Act) (x1 : Gates) (x2 : Vec Ideal S1024x1024 .f32) (x3 : Vec Ideal S1024 .f32) (x4 : Stack) (x5 : Biases) : Act := deeper (mix4 x0 x1 x2 x3 x4 x5) (View.ld x4 r1_10) (View.ld x5 r1_11)

/-- The gated sum of the first 5 outputs. -/
def mix5 (x0 : Act) (x1 : Gates) (x2 : Vec Ideal S1024x1024 .f32) (x3 : Vec Ideal S1024 .f32) (x4 : Stack) (x5 : Biases) : Act :=
  addf (addf (addf (addf (mulf (act0 x0 x2 x3) (column x1 10 slices_S512x36_o0_10_S512x1))
    (mulf (act1 x0 x1 x2 x3 x4 x5) (column x1 11 slices_S512x36_o0_11_S512x1)))
    (mulf (act2 x0 x1 x2 x3 x4 x5) (column x1 12 slices_S512x36_o0_12_S512x1)))
    (mulf (act3 x0 x1 x2 x3 x4 x5) (column x1 13 slices_S512x36_o0_13_S512x1)))
    (mulf (act4 x0 x1 x2 x3 x4 x5) (column x1 14 slices_S512x36_o0_14_S512x1))

/-- Depth 5. -/
def act5 (x0 : Act) (x1 : Gates) (x2 : Vec Ideal S1024x1024 .f32) (x3 : Vec Ideal S1024 .f32) (x4 : Stack) (x5 : Biases) : Act := deeper (mix5 x0 x1 x2 x3 x4 x5) (View.ld x4 r1_12) (View.ld x5 r1_13)

/-- The gated sum of the first 6 outputs. -/
def mix6 (x0 : Act) (x1 : Gates) (x2 : Vec Ideal S1024x1024 .f32) (x3 : Vec Ideal S1024 .f32) (x4 : Stack) (x5 : Biases) : Act :=
  addf (addf (addf (addf (addf (mulf (act0 x0 x2 x3) (column x1 15 slices_S512x36_o0_15_S512x1))
    (mulf (act1 x0 x1 x2 x3 x4 x5) (column x1 16 slices_S512x36_o0_16_S512x1)))
    (mulf (act2 x0 x1 x2 x3 x4 x5) (column x1 17 slices_S512x36_o0_17_S512x1)))
    (mulf (act3 x0 x1 x2 x3 x4 x5) (column x1 18 slices_S512x36_o0_18_S512x1)))
    (mulf (act4 x0 x1 x2 x3 x4 x5) (column x1 19 slices_S512x36_o0_19_S512x1)))
    (mulf (act5 x0 x1 x2 x3 x4 x5) (column x1 20 slices_S512x36_o0_20_S512x1))

/-- Depth 6. -/
def act6 (x0 : Act) (x1 : Gates) (x2 : Vec Ideal S1024x1024 .f32) (x3 : Vec Ideal S1024 .f32) (x4 : Stack) (x5 : Biases) : Act := deeper (mix6 x0 x1 x2 x3 x4 x5) (View.ld x4 r1_14) (View.ld x5 r1_15)

/-- The gated sum of the first 7 outputs. -/
def mix7 (x0 : Act) (x1 : Gates) (x2 : Vec Ideal S1024x1024 .f32) (x3 : Vec Ideal S1024 .f32) (x4 : Stack) (x5 : Biases) : Act :=
  addf (addf (addf (addf (addf (addf (mulf (act0 x0 x2 x3) (column x1 21 slices_S512x36_o0_21_S512x1))
    (mulf (act1 x0 x1 x2 x3 x4 x5) (column x1 22 slices_S512x36_o0_22_S512x1)))
    (mulf (act2 x0 x1 x2 x3 x4 x5) (column x1 23 slices_S512x36_o0_23_S512x1)))
    (mulf (act3 x0 x1 x2 x3 x4 x5) (column x1 24 slices_S512x36_o0_24_S512x1)))
    (mulf (act4 x0 x1 x2 x3 x4 x5) (column x1 25 slices_S512x36_o0_25_S512x1)))
    (mulf (act5 x0 x1 x2 x3 x4 x5) (column x1 26 slices_S512x36_o0_26_S512x1)))
    (mulf (act6 x0 x1 x2 x3 x4 x5) (column x1 27 slices_S512x36_o0_27_S512x1))

/-- Depth 7. -/
def act7 (x0 : Act) (x1 : Gates) (x2 : Vec Ideal S1024x1024 .f32) (x3 : Vec Ideal S1024 .f32) (x4 : Stack) (x5 : Biases) : Act := deeper (mix7 x0 x1 x2 x3 x4 x5) (View.ld x4 r1_16) (View.ld x5 r1_17)

/-- The gated sum of the first 8 outputs. -/
def mix8 (x0 : Act) (x1 : Gates) (x2 : Vec Ideal S1024x1024 .f32) (x3 : Vec Ideal S1024 .f32) (x4 : Stack) (x5 : Biases) : Act :=
  addf (addf (addf (addf (addf (addf (addf (mulf (act0 x0 x2 x3) (column x1 28 slices_S512x36_o0_28_S512x1))
    (mulf (act1 x0 x1 x2 x3 x4 x5) (column x1 29 slices_S512x36_o0_29_S512x1)))
    (mulf (act2 x0 x1 x2 x3 x4 x5) (column x1 30 slices_S512x36_o0_30_S512x1)))
    (mulf (act3 x0 x1 x2 x3 x4 x5) (column x1 31 slices_S512x36_o0_31_S512x1)))
    (mulf (act4 x0 x1 x2 x3 x4 x5) (column x1 32 slices_S512x36_o0_32_S512x1)))
    (mulf (act5 x0 x1 x2 x3 x4 x5) (column x1 33 slices_S512x36_o0_33_S512x1)))
    (mulf (act6 x0 x1 x2 x3 x4 x5) (column x1 34 slices_S512x36_o0_34_S512x1)))
    (mulf (act7 x0 x1 x2 x3 x4 x5) (column x1 35 slices_S512x36_o0_35_S512x1))

/-- The stored block is the last gated sum. -/
theorem mixture_block (x0 : Act) (x1 : Gates) (x2 : Vec Ideal S1024x1024 .f32) (x3 : Vec Ideal S1024 .f32) (x4 : Stack) (x5 : Biases) : out1_6 x0 x1 x2 x3 x4 x5 = mix8 x0 x1 x2 x3 x4 x5 := by
  have h2 : (![0, 0] : Fin 2 → Nat) = fun _ => 0 := by funext d; fin_cases d <;> rfl
  have h1 : (![0] : Fin 1 → Nat) = fun _ => 0 := by funext d; fin_cases d; rfl
  have h : out1_6 x0 x1 x2 x3 x4 x5 = mix8 (View.ld (Val := Elt Ideal) (e' := .f32) x0 r1_1 : Vec Ideal S512x1024 .f32)
      (View.ld (Val := Elt Ideal) (e' := .f32) x1 r1_0 : Vec Ideal S512x36 .f32) (View.ld x2 r1_2 : Vec Ideal S1024x1024 .f32)
      (View.ld x3 r1_3 : Vec Ideal S1024 .f32) x4 x5 := by
    unfold out1_6
    rw [View.canon_unit_zero]
    · rfl
    · funext d; fin_cases d <;> rfl
  rw [View.ld_unit_zero (S := S512x1024) h2, View.ld_unit_zero (S := S512x36) h2, View.ld_unit_zero (S := S1024x1024) h2,
    View.ld_unit_zero (S := S1024) h1] at h
  exact h

/-- A rectified linear layer at one row and one feature. -/
theorem rectified_at (v : Act) (w : FVec Ideal S1024x1024 .f32) (b : FVec Ideal S1024 .f32) (t : Fin 512) (h : Fin 1024) :
    rectified v w b (ix2 t h) = max (∑ k : Fin 1024, v (ix2 t k) * w (ix2 h k) + b (ix1 h)) 0 := by
  pointwise [rectified]

/-- A deeper layer at one row and one feature. -/
theorem deeper_at (v : Act) (w : Vec Ideal S1x1024x1024 .f32) (b : Vec Ideal S1x1024 .f32) (t : Fin 512) (h : Fin 1024) :
    deeper v w b (ix2 t h) = max (∑ k : Fin 1024, v (ix2 t k) * w (ix3 0 h k) + b (ix2 0 h)) 0 + v (ix2 t h) := by
  pointwise [deeper, rectified]

/-- A copied gate column at one row. -/
theorem column_at (g : Gates) (o : Fin 36) (hs : S512x36.Slices ![0, o.val] S512x1) (t : Fin 512) (h : Fin 1024) :
    column g o hs (ix2 t h) = g (ix2 t o) := by
  pointwise [column]

end Cert.Mixture
-- ==== Proof.MixtureRef.lean ====
/- The reference's mixture, one depth at a time, against the kernel's block: when a row of the block's inputs is a row of the
   reference's, every depth and every gated sum of the two rows agree, and so does the result. -/
module

public import proofs.«01_k».proof.Proof.Mixture
public import proofs.«01_k».proof.Proof.RefRead

@[expose] public section

noncomputable section

namespace Cert.Mixture

open Idealize.ShloMosaic Idealize.SL.Sem Cert.ReferenceIdeal Cert.ReferenceIdeal.Gen Cert.ReferenceIdeal.Read Cert.Gate Cert.GateRef

/-- Outputs of 8192 rows, `m` of them side by side. -/
abbrev SM (m : ℕ) : Shape := ⟨3, ![8192, m, 1024]⟩
/-- A 8192-row table of `m` gates with a unit axis at the end. -/
abbrev SE (m : ℕ) : Shape := ⟨3, ![8192, m, 1]⟩

/-- The gated sum of `m` outputs side by side. -/
def sumG {m : ℕ} (hb1 : (SW m).BroadcastsInDim (SE m) ![0, 1]) (hb2 : (SE m).BroadcastsInDim (SM m) ![0, 1, 2])
    (hr : (SM m).ReducesTo [1] S8192x1024) (cat : FVec Ideal (SM m) .f32) (g : FVec Ideal (SW m) .f32) : FVec Ideal S8192x1024 .f32 :=
  Host.reduceAdd (mulf cat (broadcastInDim (SM m) ![0, 1, 2] hb2 (broadcastInDim (SE m) ![0, 1] hb1 g)))
    (constant S_ .f32 0x00000000#32) hr h_S_

theorem sumG_at {m : ℕ} (hb1 : (SW m).BroadcastsInDim (SE m) ![0, 1]) (hb2 : (SE m).BroadcastsInDim (SM m) ![0, 1, 2])
    (hr : (SM m).ReducesTo [1] S8192x1024) (cat : FVec Ideal (SM m) .f32) (g : FVec Ideal (SW m) .f32) (r : Fin 8192) (h : Fin 1024) :
    sumG hb1 hb2 hr cat g (ix2 r h) = ∑ j : Fin m, cat (ix3 r j h) * g (ix2 r j) := by
  pointwise [sumG]
  refine Finset.sum_congr rfl fun x _ => congrArg (fun e => cat (ix3 r x h) * g e) (funext fun a => ?_)
  have hx := x.isLt
  fin_cases a
  · rfl
  · refine Fin.ext ?_
    by_cases hm : m = 1
    · subst hm; obtain rfl : x = 0 := Subsingleton.elim _ _; rfl
    · simp [Shape.Idx.norm, hm, ix3, ix2]
      rfl

/-- One more output at the end. -/
def stackG {m : ℕ} (hc : Shape.Concatenates [SM m, SM 1] (SM (m + 1)) 1) (cat : FVec Ideal (SM m) .f32) (y : FVec Ideal S8192x1024 .f32) :
    FVec Ideal (SM (m + 1)) .f32 :=
  concatenate (SM (m + 1)) 1 [⟨SM m, cat⟩, ⟨SM 1, broadcastInDim S8192x1x1024 ![0, 2] bcast_S8192x1024_S8192x1x1024_0_2 y⟩] hc

theorem stackG_old {m : ℕ} (hc : Shape.Concatenates [SM m, SM 1] (SM (m + 1)) 1) (cat : FVec Ideal (SM m) .f32)
    (y : FVec Ideal S8192x1024 .f32) (r : Fin 8192) (j : Fin m) (h : Fin 1024) :
    stackG hc cat y (ix3 r j.castSucc h) = cat (ix3 r j h) := by
  have hb : ∀ b : Fin 3, b ≠ 1 → (ix3 r j h b).val = (ix3 r j.castSucc h b).val := by
    intro b hb
    fin_cases b
    · rfl
    · exact absurd rfl hb
    · rfl
  unfold stackG
  exact concatenate_apply_piece (t := SM (m + 1)) 1 [⟨SM m, cat⟩, ⟨SM 1, broadcastInDim S8192x1x1024 ![0, 2] bcast_S8192x1024_S8192x1x1024_0_2 y⟩] hc (ix3 r j.castSucc h) 0 (by show 0 < 2; exact Nat.two_pos) (SM m) cat rfl rfl 0 rfl
    (ix3 r j h) (fun b => hb b) (Nat.zero_add _)

theorem stackG_new {m : ℕ} (hc : Shape.Concatenates [SM m, SM 1] (SM (m + 1)) 1) (cat : FVec Ideal (SM m) .f32)
    (y : FVec Ideal S8192x1024 .f32) (r : Fin 8192) (h : Fin 1024) :
    stackG hc cat y (ix3 r (Fin.last m) h) = y (ix2 r h) := by
  have e : (broadcastInDim S8192x1x1024 ![0, 2] bcast_S8192x1024_S8192x1x1024_0_2 y : FVec Ideal (SM 1) .f32) (ix3 r (0 : Fin 1) h) = y (ix2 r h) := by
    pointwise
  have hb : ∀ b : Fin 3, b ≠ 1 → (ix3 r (0 : Fin 1) h b).val = (ix3 r (Fin.last m) h b).val := by
    intro b hb
    fin_cases b
    · rfl
    · exact absurd rfl hb
    · rfl
  unfold stackG
  exact (concatenate_apply_piece (t := SM (m + 1)) 1 [⟨SM m, cat⟩, ⟨SM 1, broadcastInDim S8192x1x1024 ![0, 2] bcast_S8192x1024_S8192x1x1024_0_2 y⟩] hc (ix3 r (Fin.last m) h) 1 (by show 1 < 2; exact Nat.one_lt_two) (SM 1) _ rfl rfl m
    (Nat.add_zero m) (ix3 r (0 : Fin 1) h) (fun b => hb b) rfl).trans e

/-- The rectified linear layer. -/
def rectifiedG (v : FVec Ideal S8192x1024 .f32) (w : FVec Ideal S1024x1024 .f32) (b : FVec Ideal S1024 .f32) : FVec Ideal S8192x1024 .f32 :=
  maximumf (addf (Host.dotGeneral dot_S8192x1024_S1024x1024_S8192x1024_1_0_0_1_n_n none v
      (transpose S1024x1024 [1, 0] w transposes_S1024x1024_S1024x1024_1_0))
    (broadcastInDim S8192x1024 ![0, 1] bcast_S1x1024_S8192x1024_0_1 (broadcastInDim S1x1024 ![1] bcast_S1024_S1x1024_1 b)))
    (val_main_call10_v0 (F := Ideal))

theorem rectifiedG_at (v : FVec Ideal S8192x1024 .f32) (w : FVec Ideal S1024x1024 .f32) (b : FVec Ideal S1024 .f32) (r : Fin 8192) (h : Fin 1024) :
    rectifiedG v w b (ix2 r h) = max (∑ k : Fin 1024, v (ix2 r k) * w (ix2 h k) + b (ix1 h)) 0 := by
  pointwise [rectifiedG, val_main_call10_v0, val_main_call10_cst]

/-- One deeper layer: the rectified linear layer of its input, plus the input. -/
def deeperG (i : ℕ) (hw : S7x1024x1024.Slices ![i, 0, 0] S1x1024x1024) (hb : S7x1024.Slices ![i, 0] S1x1024)
    (w : FVec Ideal S7x1024x1024 .f32) (b : FVec Ideal S7x1024 .f32) (v : FVec Ideal S8192x1024 .f32) : FVec Ideal S8192x1024 .f32 :=
  addf (rectifiedG v (shapeCast S1024x1024 (extractStridedSlice S1x1024x1024 ![i, 0, 0] w hw) shapeCasts_S1x1024x1024_S1024x1024)
    (shapeCast S1024 (extractStridedSlice S1x1024 ![i, 0] b hb) shapeCasts_S1x1024_S1024)) v

theorem deeperG_at (i : Fin 7) (hw : S7x1024x1024.Slices ![i.val, 0, 0] S1x1024x1024) (hb : S7x1024.Slices ![i.val, 0] S1x1024)
    (w : FVec Ideal S7x1024x1024 .f32) (b : FVec Ideal S7x1024 .f32) (v : FVec Ideal S8192x1024 .f32) (r : Fin 8192) (h : Fin 1024) :
    deeperG i.val hw hb w b v (ix2 r h) = max (∑ k : Fin 1024, v (ix2 r k) * w (ix3 i h k) + b (ix2 i h)) 0 + v (ix2 r h) := by
  pointwise [deeperG, rectifiedG, val_main_call10_v0, val_main_call10_cst]

/-- A loaded slice of the stacked weights. -/
theorem weights_at (x4 : Stack) (i : Fin 7) (inb) (h k : Fin 1024) :
    View.ld x4 (Rect.unit (s := S7x1024x1024) ![i.val, 0, 0] S1x1024x1024.size inb) (ix3 (0 : Fin 1) h k) = x4 (ix3 i h k) := by
  refine congrArg x4 (funext fun d => ?_)
  fin_cases d
  · exact Fin.ext (by show i.val + 0 * 1 = i.val; omega)
  · exact Fin.ext (by show 0 + 1 * h.val = h.val; omega)
  · exact Fin.ext (by show 0 + 1 * k.val = k.val; omega)

/-- A loaded slice of the stacked biases. -/
theorem biases_at (x5 : Biases) (i : Fin 7) (inb) (h : Fin 1024) :
    View.ld x5 (Rect.unit (s := S7x1024) ![i.val, 0] S1x1024.size inb) (ix2 (0 : Fin 1) h) = x5 (ix2 i h) := by
  refine congrArg x5 (funext fun d => ?_)
  fin_cases d
  · exact Fin.ext (by show i.val + 0 * 1 = i.val; omega)
  · exact Fin.ext (by show 0 + 1 * h.val = h.val; omega)

/-- Row `t` of a block and row `r` of a full array agree. -/
def Same (t : Fin 512) (r : Fin 8192) (y : Act) (z : FVec Ideal S8192x1024 .f32) : Prop := ∀ h : Fin 1024, y (ix2 t h) = z (ix2 r h)

variable {t : Fin 512} {r : Fin 8192}

theorem same_rectified {v : Act} {z : FVec Ideal S8192x1024 .f32} (hv : Same t r v z) (w : FVec Ideal S1024x1024 .f32) (b : FVec Ideal S1024 .f32) :
    Same t r (rectified v w b) (rectifiedG z w b) := fun h => by
  rw [rectified_at, rectifiedG_at]
  simp only [hv _]

theorem same_deeper {v : Act} {z : FVec Ideal S8192x1024 .f32} (hv : Same t r v z) (x4 : Stack) (x5 : Biases) (i : Fin 7) (iw) (ib) (hw) (hb) :
    Same t r (deeper v (View.ld x4 (Rect.unit (s := S7x1024x1024) ![i.val, 0, 0] S1x1024x1024.size iw))
      (View.ld x5 (Rect.unit (s := S7x1024) ![i.val, 0] S1x1024.size ib))) (deeperG i.val hw hb x4 x5 z) := fun h => by
  rw [deeper_at, deeperG_at, hv h]
  simp only [hv _]
  congr 2
  congr 1
  · exact Finset.sum_congr rfl fun k _ => congrArg _ (weights_at x4 i iw h k)
  · exact biases_at x5 i ib h

/-- The first `m` outputs of a block's row stand side by side in row `r` of `cat`. -/
def Stacked (t : Fin 512) (r : Fin 8192) (acts : ℕ → Act) (m : ℕ) (cat : FVec Ideal (SM m) .f32) : Prop :=
  ∀ (j : Fin m) (h : Fin 1024), cat (ix3 r j h) = acts j.val (ix2 t h)

theorem stacked_succ {acts : ℕ → Act} {m : ℕ} {cat : FVec Ideal (SM m) .f32} {z : FVec Ideal S8192x1024 .f32} (hc)
    (hs : Stacked t r acts m cat) (hz : Same t r (acts m) z) : Stacked t r acts (m + 1) (stackG hc cat z) := by
  intro j h
  induction j using Fin.lastCases with
  | last => exact (stackG_new hc cat z r h).trans (hz h).symm
  | cast j => exact (stackG_old hc cat z r j h).trans (hs j h)

theorem stacked_one {acts : ℕ → Act} {z : FVec Ideal S8192x1024 .f32} (hz : Same t r (acts 0) z) :
    Stacked t r acts 1 (broadcastInDim S8192x1x1024 ![0, 2] bcast_S8192x1024_S8192x1x1024_0_2 z) := by
  intro j h
  obtain rfl : j = 0 := Subsingleton.elim _ _
  refine Eq.trans ?_ (hz h).symm
  pointwise

/-- A gated sum of the block's outputs agrees with the reference's, given that the outputs and the gates do. -/
theorem same_sum {acts : ℕ → Act} {m lo : ℕ} {mix : Act} {x1 : Gates} {cat : FVec Ideal (SM m) .f32} {g : FVec Ideal (SW m) .f32} (hb1) (hb2) (hr)
    (hl : lo + m ≤ 36) (hm : ∀ h : Fin 1024, mix (ix2 t h) = ∑ j : Fin m, acts j.val (ix2 t h) * x1 (ix2 t (lift hl j)))
    (hs : Stacked t r acts m cat) (hg : ∀ j : Fin m, x1 (ix2 t (lift hl j)) = g (ix2 r j)) : Same t r mix (sumG hb1 hb2 hr cat g) := fun h => by
  rw [hm, sumG_at]
  exact Finset.sum_congr rfl fun j _ => by rw [hs j h, hg j]

/-- The outputs of the block, by depth. -/
def acts (x0 : Act) (x1 : Gates) (x2 : Vec Ideal S1024x1024 .f32) (x3 : Vec Ideal S1024 .f32) (x4 : Stack) (x5 : Biases) : ℕ → Act
  | 0 => act0 x0 x2 x3
  | 1 => act1 x0 x1 x2 x3 x4 x5
  | 2 => act2 x0 x1 x2 x3 x4 x5
  | 3 => act3 x0 x1 x2 x3 x4 x5
  | 4 => act4 x0 x1 x2 x3 x4 x5
  | 5 => act5 x0 x1 x2 x3 x4 x5
  | 6 => act6 x0 x1 x2 x3 x4 x5
  | _ => act7 x0 x1 x2 x3 x4 x5

theorem mix1_at (x0 : Act) (x1 : Gates) (x2 : Vec Ideal S1024x1024 .f32) (x3 : Vec Ideal S1024 .f32) (x4 : Stack) (x5 : Biases) (t : Fin 512) (h : Fin 1024) (hl : 0 + 1 ≤ 36) :
    mix1 x0 x1 x2 x3 x4 x5 (ix2 t h) = ∑ j : Fin 1, acts x0 x1 x2 x3 x4 x5 j.val (ix2 t h) * x1 (ix2 t (lift hl j)) := by
  have e : mix1 x0 x1 x2 x3 x4 x5 (ix2 t h) = acts x0 x1 x2 x3 x4 x5 0 (ix2 t h) * column x1 0 Cert.KernelIdeal.Gen.slices_S512x36_o0_0_S512x1 (ix2 t h) := rfl
  rw [e]
  simp only [column_at x1 ⟨0, by decide⟩]
  simp only [Fin.sum_univ_succ, Fin.sum_univ_zero, add_zero, ← add_assoc]
  rfl

theorem mix2_at (x0 : Act) (x1 : Gates) (x2 : Vec Ideal S1024x1024 .f32) (x3 : Vec Ideal S1024 .f32) (x4 : Stack) (x5 : Biases) (t : Fin 512) (h : Fin 1024) (hl : 1 + 2 ≤ 36) :
    mix2 x0 x1 x2 x3 x4 x5 (ix2 t h) = ∑ j : Fin 2, acts x0 x1 x2 x3 x4 x5 j.val (ix2 t h) * x1 (ix2 t (lift hl j)) := by
  have e : mix2 x0 x1 x2 x3 x4 x5 (ix2 t h) = acts x0 x1 x2 x3 x4 x5 0 (ix2 t h) * column x1 1 Cert.KernelIdeal.Gen.slices_S512x36_o0_1_S512x1 (ix2 t h) + acts x0 x1 x2 x3 x4 x5 1 (ix2 t h) * column x1 2 Cert.KernelIdeal.Gen.slices_S512x36_o0_2_S512x1 (ix2 t h) := rfl
  rw [e]
  simp only [column_at x1 ⟨1, by decide⟩, column_at x1 ⟨2, by decide⟩]
  simp only [Fin.sum_univ_succ, Fin.sum_univ_zero, add_zero, ← add_assoc]
  rfl

theorem mix3_at (x0 : Act) (x1 : Gates) (x2 : Vec Ideal S1024x1024 .f32) (x3 : Vec Ideal S1024 .f32) (x4 : Stack) (x5 : Biases) (t : Fin 512) (h : Fin 1024) (hl : 3 + 3 ≤ 36) :
    mix3 x0 x1 x2 x3 x4 x5 (ix2 t h) = ∑ j : Fin 3, acts x0 x1 x2 x3 x4 x5 j.val (ix2 t h) * x1 (ix2 t (lift hl j)) := by
  have e : mix3 x0 x1 x2 x3 x4 x5 (ix2 t h) = acts x0 x1 x2 x3 x4 x5 0 (ix2 t h) * column x1 3 Cert.KernelIdeal.Gen.slices_S512x36_o0_3_S512x1 (ix2 t h) + acts x0 x1 x2 x3 x4 x5 1 (ix2 t h) * column x1 4 Cert.KernelIdeal.Gen.slices_S512x36_o0_4_S512x1 (ix2 t h) + acts x0 x1 x2 x3 x4 x5 2 (ix2 t h) * column x1 5 Cert.KernelIdeal.Gen.slices_S512x36_o0_5_S512x1 (ix2 t h) := rfl
  rw [e]
  simp only [column_at x1 ⟨3, by decide⟩, column_at x1 ⟨4, by decide⟩, column_at x1 ⟨5, by decide⟩]
  simp only [Fin.sum_univ_succ, Fin.sum_univ_zero, add_zero, ← add_assoc]
  rfl

theorem mix4_at (x0 : Act) (x1 : Gates) (x2 : Vec Ideal S1024x1024 .f32) (x3 : Vec Ideal S1024 .f32) (x4 : Stack) (x5 : Biases) (t : Fin 512) (h : Fin 1024) (hl : 6 + 4 ≤ 36) :
    mix4 x0 x1 x2 x3 x4 x5 (ix2 t h) = ∑ j : Fin 4, acts x0 x1 x2 x3 x4 x5 j.val (ix2 t h) * x1 (ix2 t (lift hl j)) := by
  have e : mix4 x0 x1 x2 x3 x4 x5 (ix2 t h) = acts x0 x1 x2 x3 x4 x5 0 (ix2 t h) * column x1 6 Cert.KernelIdeal.Gen.slices_S512x36_o0_6_S512x1 (ix2 t h) + acts x0 x1 x2 x3 x4 x5 1 (ix2 t h) * column x1 7 Cert.KernelIdeal.Gen.slices_S512x36_o0_7_S512x1 (ix2 t h) + acts x0 x1 x2 x3 x4 x5 2 (ix2 t h) * column x1 8 Cert.KernelIdeal.Gen.slices_S512x36_o0_8_S512x1 (ix2 t h) + acts x0 x1 x2 x3 x4 x5 3 (ix2 t h) * column x1 9 Cert.KernelIdeal.Gen.slices_S512x36_o0_9_S512x1 (ix2 t h) := rfl
  rw [e]
  simp only [column_at x1 ⟨6, by decide⟩, column_at x1 ⟨7, by decide⟩, column_at x1 ⟨8, by decide⟩, column_at x1 ⟨9, by decide⟩]
  simp only [Fin.sum_univ_succ, Fin.sum_univ_zero, add_zero, ← add_assoc]
  rfl

theorem mix5_at (x0 : Act) (x1 : Gates) (x2 : Vec Ideal S1024x1024 .f32) (x3 : Vec Ideal S1024 .f32) (x4 : Stack) (x5 : Biases) (t : Fin 512) (h : Fin 1024) (hl : 10 + 5 ≤ 36) :
    mix5 x0 x1 x2 x3 x4 x5 (ix2 t h) = ∑ j : Fin 5, acts x0 x1 x2 x3 x4 x5 j.val (ix2 t h) * x1 (ix2 t (lift hl j)) := by
  have e : mix5 x0 x1 x2 x3 x4 x5 (ix2 t h) = acts x0 x1 x2 x3 x4 x5 0 (ix2 t h) * column x1 10 Cert.KernelIdeal.Gen.slices_S512x36_o0_10_S512x1 (ix2 t h) + acts x0 x1 x2 x3 x4 x5 1 (ix2 t h) * column x1 11 Cert.KernelIdeal.Gen.slices_S512x36_o0_11_S512x1 (ix2 t h) + acts x0 x1 x2 x3 x4 x5 2 (ix2 t h) * column x1 12 Cert.KernelIdeal.Gen.slices_S512x36_o0_12_S512x1 (ix2 t h) + acts x0 x1 x2 x3 x4 x5 3 (ix2 t h) * column x1 13 Cert.KernelIdeal.Gen.slices_S512x36_o0_13_S512x1 (ix2 t h) + acts x0 x1 x2 x3 x4 x5 4 (ix2 t h) * column x1 14 Cert.KernelIdeal.Gen.slices_S512x36_o0_14_S512x1 (ix2 t h) := rfl
  rw [e]
  simp only [column_at x1 ⟨10, by decide⟩, column_at x1 ⟨11, by decide⟩, column_at x1 ⟨12, by decide⟩, column_at x1 ⟨13, by decide⟩, column_at x1 ⟨14, by decide⟩]
  simp only [Fin.sum_univ_succ, Fin.sum_univ_zero, add_zero, ← add_assoc]
  rfl

theorem mix6_at (x0 : Act) (x1 : Gates) (x2 : Vec Ideal S1024x1024 .f32) (x3 : Vec Ideal S1024 .f32) (x4 : Stack) (x5 : Biases) (t : Fin 512) (h : Fin 1024) (hl : 15 + 6 ≤ 36) :
    mix6 x0 x1 x2 x3 x4 x5 (ix2 t h) = ∑ j : Fin 6, acts x0 x1 x2 x3 x4 x5 j.val (ix2 t h) * x1 (ix2 t (lift hl j)) := by
  have e : mix6 x0 x1 x2 x3 x4 x5 (ix2 t h) = acts x0 x1 x2 x3 x4 x5 0 (ix2 t h) * column x1 15 Cert.KernelIdeal.Gen.slices_S512x36_o0_15_S512x1 (ix2 t h) + acts x0 x1 x2 x3 x4 x5 1 (ix2 t h) * column x1 16 Cert.KernelIdeal.Gen.slices_S512x36_o0_16_S512x1 (ix2 t h) + acts x0 x1 x2 x3 x4 x5 2 (ix2 t h) * column x1 17 Cert.KernelIdeal.Gen.slices_S512x36_o0_17_S512x1 (ix2 t h) + acts x0 x1 x2 x3 x4 x5 3 (ix2 t h) * column x1 18 Cert.KernelIdeal.Gen.slices_S512x36_o0_18_S512x1 (ix2 t h) + acts x0 x1 x2 x3 x4 x5 4 (ix2 t h) * column x1 19 Cert.KernelIdeal.Gen.slices_S512x36_o0_19_S512x1 (ix2 t h) + acts x0 x1 x2 x3 x4 x5 5 (ix2 t h) * column x1 20 Cert.KernelIdeal.Gen.slices_S512x36_o0_20_S512x1 (ix2 t h) := rfl
  rw [e]
  simp only [column_at x1 ⟨15, by decide⟩, column_at x1 ⟨16, by decide⟩, column_at x1 ⟨17, by decide⟩, column_at x1 ⟨18, by decide⟩, column_at x1 ⟨19, by decide⟩, column_at x1 ⟨20, by decide⟩]
  simp only [Fin.sum_univ_succ, Fin.sum_univ_zero, add_zero, ← add_assoc]
  rfl

theorem mix7_at (x0 : Act) (x1 : Gates) (x2 : Vec Ideal S1024x1024 .f32) (x3 : Vec Ideal S1024 .f32) (x4 : Stack) (x5 : Biases) (t : Fin 512) (h : Fin 1024) (hl : 21 + 7 ≤ 36) :
    mix7 x0 x1 x2 x3 x4 x5 (ix2 t h) = ∑ j : Fin 7, acts x0 x1 x2 x3 x4 x5 j.val (ix2 t h) * x1 (ix2 t (lift hl j)) := by
  have e : mix7 x0 x1 x2 x3 x4 x5 (ix2 t h) = acts x0 x1 x2 x3 x4 x5 0 (ix2 t h) * column x1 21 Cert.KernelIdeal.Gen.slices_S512x36_o0_21_S512x1 (ix2 t h) + acts x0 x1 x2 x3 x4 x5 1 (ix2 t h) * column x1 22 Cert.KernelIdeal.Gen.slices_S512x36_o0_22_S512x1 (ix2 t h) + acts x0 x1 x2 x3 x4 x5 2 (ix2 t h) * column x1 23 Cert.KernelIdeal.Gen.slices_S512x36_o0_23_S512x1 (ix2 t h) + acts x0 x1 x2 x3 x4 x5 3 (ix2 t h) * column x1 24 Cert.KernelIdeal.Gen.slices_S512x36_o0_24_S512x1 (ix2 t h) + acts x0 x1 x2 x3 x4 x5 4 (ix2 t h) * column x1 25 Cert.KernelIdeal.Gen.slices_S512x36_o0_25_S512x1 (ix2 t h) + acts x0 x1 x2 x3 x4 x5 5 (ix2 t h) * column x1 26 Cert.KernelIdeal.Gen.slices_S512x36_o0_26_S512x1 (ix2 t h) + acts x0 x1 x2 x3 x4 x5 6 (ix2 t h) * column x1 27 Cert.KernelIdeal.Gen.slices_S512x36_o0_27_S512x1 (ix2 t h) := rfl
  rw [e]
  simp only [column_at x1 ⟨21, by decide⟩, column_at x1 ⟨22, by decide⟩, column_at x1 ⟨23, by decide⟩, column_at x1 ⟨24, by decide⟩, column_at x1 ⟨25, by decide⟩, column_at x1 ⟨26, by decide⟩, column_at x1 ⟨27, by decide⟩]
  simp only [Fin.sum_univ_succ, Fin.sum_univ_zero, add_zero, ← add_assoc]
  rfl

theorem mix8_at (x0 : Act) (x1 : Gates) (x2 : Vec Ideal S1024x1024 .f32) (x3 : Vec Ideal S1024 .f32) (x4 : Stack) (x5 : Biases) (t : Fin 512) (h : Fin 1024) (hl : 28 + 8 ≤ 36) :
    mix8 x0 x1 x2 x3 x4 x5 (ix2 t h) = ∑ j : Fin 8, acts x0 x1 x2 x3 x4 x5 j.val (ix2 t h) * x1 (ix2 t (lift hl j)) := by
  have e : mix8 x0 x1 x2 x3 x4 x5 (ix2 t h) = acts x0 x1 x2 x3 x4 x5 0 (ix2 t h) * column x1 28 Cert.KernelIdeal.Gen.slices_S512x36_o0_28_S512x1 (ix2 t h) + acts x0 x1 x2 x3 x4 x5 1 (ix2 t h) * column x1 29 Cert.KernelIdeal.Gen.slices_S512x36_o0_29_S512x1 (ix2 t h) + acts x0 x1 x2 x3 x4 x5 2 (ix2 t h) * column x1 30 Cert.KernelIdeal.Gen.slices_S512x36_o0_30_S512x1 (ix2 t h) + acts x0 x1 x2 x3 x4 x5 3 (ix2 t h) * column x1 31 Cert.KernelIdeal.Gen.slices_S512x36_o0_31_S512x1 (ix2 t h) + acts x0 x1 x2 x3 x4 x5 4 (ix2 t h) * column x1 32 Cert.KernelIdeal.Gen.slices_S512x36_o0_32_S512x1 (ix2 t h) + acts x0 x1 x2 x3 x4 x5 5 (ix2 t h) * column x1 33 Cert.KernelIdeal.Gen.slices_S512x36_o0_33_S512x1 (ix2 t h) + acts x0 x1 x2 x3 x4 x5 6 (ix2 t h) * column x1 34 Cert.KernelIdeal.Gen.slices_S512x36_o0_34_S512x1 (ix2 t h) + acts x0 x1 x2 x3 x4 x5 7 (ix2 t h) * column x1 35 Cert.KernelIdeal.Gen.slices_S512x36_o0_35_S512x1 (ix2 t h) := rfl
  rw [e]
  simp only [column_at x1 ⟨28, by decide⟩, column_at x1 ⟨29, by decide⟩, column_at x1 ⟨30, by decide⟩, column_at x1 ⟨31, by decide⟩, column_at x1 ⟨32, by decide⟩, column_at x1 ⟨33, by decide⟩, column_at x1 ⟨34, by decide⟩, column_at x1 ⟨35, by decide⟩]
  simp only [Fin.sum_univ_succ, Fin.sum_univ_zero, add_zero, ← add_assoc]
  rfl

variable (y0 : FVec Ideal S8192x1024 .f32) (y1 : FVec Ideal S8192x1024 .f32) (y2 : FVec Ideal S1024x1024 .f32) (y3 : FVec Ideal S1024 .f32) (y4 : FVec Ideal S7x1024x1024 .f32) (y5 : FVec Ideal S7x1024 .f32) (y6 : FVec Ideal S512x1024 .f32) (y7 : FVec Ideal S512 .f32) (y8 : FVec Ideal S36x512 .f32) (y9 : FVec Ideal S36 .f32)

theorem first_eq : val_main_v355 (F := Ideal) y0 y2 y3 = rectifiedG y0 y2 y3 := rfl

theorem cat1_eq : val_main_v356 (F := Ideal) y0 y2 y3 = broadcastInDim S8192x1x1024 ![0, 2] bcast_S8192x1024_S8192x1x1024_0_2 (val_main_v355 (F := Ideal) y0 y2 y3) := rfl

theorem sum1_eq : val_main_v360 (F := Ideal) y0 y1 y2 y3 y6 y7 y8 y9 = sumG (m := 1) bcast_S8192x1_S8192x1x1_0_1 bcast_S8192x1x1_S8192x1x1024_0_1_2
    reducesTo_S8192x1x1024_S8192x1024_d1 (val_main_v356 (F := Ideal) y0 y2 y3) (val_main_v44 (F := Ideal) y1 y6 y7 y8 y9) := rfl

theorem deeper1_eq : val_main_v371 (F := Ideal) y0 y1 y2 y3 y4 y5 y6 y7 y8 y9 = deeperG 0 slices_S7x1024x1024_S1x1024x1024_0_0_0 slices_S7x1024_S1x1024_0_0 y4 y5
    (val_main_v360 (F := Ideal) y0 y1 y2 y3 y6 y7 y8 y9) := rfl

theorem cat2_eq : val_main_v373 (F := Ideal) y0 y1 y2 y3 y4 y5 y6 y7 y8 y9 = stackG (m := 1) concatenates_S8192x1x1024_S8192x1x1024_S8192x2x1024_d1
    (val_main_v356 (F := Ideal) y0 y2 y3) (val_main_v371 (F := Ideal) y0 y1 y2 y3 y4 y5 y6 y7 y8 y9) := rfl

theorem sum2_eq : val_main_v377 (F := Ideal) y0 y1 y2 y3 y4 y5 y6 y7 y8 y9 = sumG (m := 2) bcast_S8192x2_S8192x2x1_0_1 bcast_S8192x2x1_S8192x2x1024_0_1_2
    reducesTo_S8192x2x1024_S8192x1024_d1 (val_main_v373 (F := Ideal) y0 y1 y2 y3 y4 y5 y6 y7 y8 y9) (val_main_v84 (F := Ideal) y1 y6 y7 y8 y9) := rfl

theorem deeper2_eq : val_main_v388 (F := Ideal) y0 y1 y2 y3 y4 y5 y6 y7 y8 y9 = deeperG 1 slices_S7x1024x1024_S1x1024x1024_1_0_0 slices_S7x1024_S1x1024_1_0 y4 y5
    (val_main_v377 (F := Ideal) y0 y1 y2 y3 y4 y5 y6 y7 y8 y9) := rfl

theorem cat3_eq : val_main_v390 (F := Ideal) y0 y1 y2 y3 y4 y5 y6 y7 y8 y9 = stackG (m := 2) concatenates_S8192x2x1024_S8192x1x1024_S8192x3x1024_d1
    (val_main_v373 (F := Ideal) y0 y1 y2 y3 y4 y5 y6 y7 y8 y9) (val_main_v388 (F := Ideal) y0 y1 y2 y3 y4 y5 y6 y7 y8 y9) := rfl

theorem sum3_eq : val_main_v394 (F := Ideal) y0 y1 y2 y3 y4 y5 y6 y7 y8 y9 = sumG (m := 3) bcast_S8192x3_S8192x3x1_0_1 bcast_S8192x3x1_S8192x3x1024_0_1_2
    reducesTo_S8192x3x1024_S8192x1024_d1 (val_main_v390 (F := Ideal) y0 y1 y2 y3 y4 y5 y6 y7 y8 y9) (val_main_v126 (F := Ideal) y1 y6 y7 y8 y9) := rfl

theorem deeper3_eq : val_main_v405 (F := Ideal) y0 y1 y2 y3 y4 y5 y6 y7 y8 y9 = deeperG 2 slices_S7x1024x1024_S1x1024x1024_2_0_0 slices_S7x1024_S1x1024_2_0 y4 y5
    (val_main_v394 (F := Ideal) y0 y1 y2 y3 y4 y5 y6 y7 y8 y9) := rfl

theorem cat4_eq : val_main_v407 (F := Ideal) y0 y1 y2 y3 y4 y5 y6 y7 y8 y9 = stackG (m := 3) concatenates_S8192x3x1024_S8192x1x1024_S8192x4x1024_d1
    (val_main_v390 (F := Ideal) y0 y1 y2 y3 y4 y5 y6 y7 y8 y9) (val_main_v405 (F := Ideal) y0 y1 y2 y3 y4 y5 y6 y7 y8 y9) := rfl

theorem sum4_eq : val_main_v411 (F := Ideal) y0 y1 y2 y3 y4 y5 y6 y7 y8 y9 = sumG (m := 4) bcast_S8192x4_S8192x4x1_0_1 bcast_S8192x4x1_S8192x4x1024_0_1_2
    reducesTo_S8192x4x1024_S8192x1024_d1 (val_main_v407 (F := Ideal) y0 y1 y2 y3 y4 y5 y6 y7 y8 y9) (val_main_v168 (F := Ideal) y1 y6 y7 y8 y9) := rfl

theorem deeper4_eq : val_main_v422 (F := Ideal) y0 y1 y2 y3 y4 y5 y6 y7 y8 y9 = deeperG 3 slices_S7x1024x1024_S1x1024x1024_3_0_0 slices_S7x1024_S1x1024_3_0 y4 y5
    (val_main_v411 (F := Ideal) y0 y1 y2 y3 y4 y5 y6 y7 y8 y9) := rfl

theorem cat5_eq : val_main_v424 (F := Ideal) y0 y1 y2 y3 y4 y5 y6 y7 y8 y9 = stackG (m := 4) concatenates_S8192x4x1024_S8192x1x1024_S8192x5x1024_d1
    (val_main_v407 (F := Ideal) y0 y1 y2 y3 y4 y5 y6 y7 y8 y9) (val_main_v422 (F := Ideal) y0 y1 y2 y3 y4 y5 y6 y7 y8 y9) := rfl

theorem sum5_eq : val_main_v428 (F := Ideal) y0 y1 y2 y3 y4 y5 y6 y7 y8 y9 = sumG (m := 5) bcast_S8192x5_S8192x5x1_0_1 bcast_S8192x5x1_S8192x5x1024_0_1_2
    reducesTo_S8192x5x1024_S8192x1024_d1 (val_main_v424 (F := Ideal) y0 y1 y2 y3 y4 y5 y6 y7 y8 y9) (val_main_v210 (F := Ideal) y1 y6 y7 y8 y9) := rfl

theorem deeper5_eq : val_main_v439 (F := Ideal) y0 y1 y2 y3 y4 y5 y6 y7 y8 y9 = deeperG 4 slices_S7x1024x1024_S1x1024x1024_4_0_0 slices_S7x1024_S1x1024_4_0 y4 y5
    (val_main_v428 (F := Ideal) y0 y1 y2 y3 y4 y5 y6 y7 y8 y9) := rfl

theorem cat6_eq : val_main_v441 (F := Ideal) y0 y1 y2 y3 y4 y5 y6 y7 y8 y9 = stackG (m := 5) concatenates_S8192x5x1024_S8192x1x1024_S8192x6x1024_d1
    (val_main_v424 (F := Ideal) y0 y1 y2 y3 y4 y5 y6 y7 y8 y9) (val_main_v439 (F := Ideal) y0 y1 y2 y3 y4 y5 y6 y7 y8 y9) := rfl

theorem sum6_eq : val_main_v445 (F := Ideal) y0 y1 y2 y3 y4 y5 y6 y7 y8 y9 = sumG (m := 6) bcast_S8192x6_S8192x6x1_0_1 bcast_S8192x6x1_S8192x6x1024_0_1_2
    reducesTo_S8192x6x1024_S8192x1024_d1 (val_main_v441 (F := Ideal) y0 y1 y2 y3 y4 y5 y6 y7 y8 y9) (val_main_v252 (F := Ideal) y1 y6 y7 y8 y9) := rfl

theorem deeper6_eq : val_main_v456 (F := Ideal) y0 y1 y2 y3 y4 y5 y6 y7 y8 y9 = deeperG 5 slices_S7x1024x1024_S1x1024x1024_5_0_0 slices_S7x1024_S1x1024_5_0 y4 y5
    (val_main_v445 (F := Ideal) y0 y1 y2 y3 y4 y5 y6 y7 y8 y9) := rfl

theorem cat7_eq : val_main_v458 (F := Ideal) y0 y1 y2 y3 y4 y5 y6 y7 y8 y9 = stackG (m := 6) concatenates_S8192x6x1024_S8192x1x1024_S8192x7x1024_d1
    (val_main_v441 (F := Ideal) y0 y1 y2 y3 y4 y5 y6 y7 y8 y9) (val_main_v456 (F := Ideal) y0 y1 y2 y3 y4 y5 y6 y7 y8 y9) := rfl

theorem sum7_eq : val_main_v462 (F := Ideal) y0 y1 y2 y3 y4 y5 y6 y7 y8 y9 = sumG (m := 7) bcast_S8192x7_S8192x7x1_0_1 bcast_S8192x7x1_S8192x7x1024_0_1_2
    reducesTo_S8192x7x1024_S8192x1024_d1 (val_main_v458 (F := Ideal) y0 y1 y2 y3 y4 y5 y6 y7 y8 y9) (val_main_v294 (F := Ideal) y1 y6 y7 y8 y9) := rfl

theorem deeper7_eq : val_main_v473 (F := Ideal) y0 y1 y2 y3 y4 y5 y6 y7 y8 y9 = deeperG 6 slices_S7x1024x1024_S1x1024x1024_6_0_0 slices_S7x1024_S1x1024_6_0 y4 y5
    (val_main_v462 (F := Ideal) y0 y1 y2 y3 y4 y5 y6 y7 y8 y9) := rfl

theorem cat8_eq : val_main_v475 (F := Ideal) y0 y1 y2 y3 y4 y5 y6 y7 y8 y9 = stackG (m := 7) concatenates_S8192x7x1024_S8192x1x1024_S8192x8x1024_d1
    (val_main_v458 (F := Ideal) y0 y1 y2 y3 y4 y5 y6 y7 y8 y9) (val_main_v473 (F := Ideal) y0 y1 y2 y3 y4 y5 y6 y7 y8 y9) := rfl

theorem sum8_eq : val_main_v479 (F := Ideal) y0 y1 y2 y3 y4 y5 y6 y7 y8 y9 = sumG (m := 8) bcast_S8192x8_S8192x8x1_0_1 bcast_S8192x8x1_S8192x8x1024_0_1_2
    reducesTo_S8192x8x1024_S8192x1024_d1 (val_main_v475 (F := Ideal) y0 y1 y2 y3 y4 y5 y6 y7 y8 y9) (val_main_v336 (F := Ideal) y1 y6 y7 y8 y9) := rfl

/-- Row `t` of the stored block is row `r` of the reference's result, when the inputs' and the gates' rows agree. -/
theorem mixture_row (x0 : Act) (x1 : Gates) (hx : Same t r x0 y0)
    (hg : ∀ c : Fin 36, x1 (ix2 t c) = val_main_v480 (F := Ideal) y1 y6 y7 y8 y9 (ix2 r c)) :
    Same t r (Cert.KernelIdeal.Gen.out1_6 (F := Ideal) x0 x1 y2 y3 y4 y5) (val_main_v479 (F := Ideal) y0 y1 y2 y3 y4 y5 y6 y7 y8 y9) := by
  rw [mixture_block]
  rw [gates_join] at hg
  have a0 : Same t r (acts x0 x1 y2 y3 y4 y5 0) (val_main_v355 (F := Ideal) y0 y2 y3) := by
    rw [first_eq]; exact same_rectified hx y2 y3
  have c1 : Stacked t r (acts x0 x1 y2 y3 y4 y5) 1 (val_main_v356 (F := Ideal) y0 y2 y3) := by
    rw [cat1_eq]; exact stacked_one a0
  have s1 : Same t r (mix1 x0 x1 y2 y3 y4 y5) (val_main_v360 (F := Ideal) y0 y1 y2 y3 y6 y7 y8 y9) := by
    rw [sum1_eq]
    exact same_sum _ _ _ (lo := 0) (by decide) (fun h => mix1_at x0 x1 y2 y3 y4 y5 t h _) c1
      (fun j => (hg _).trans (join1 _ _ _ _ _ _ _ _ r _ j))
  have a1 : Same t r (acts x0 x1 y2 y3 y4 y5 1) (val_main_v371 (F := Ideal) y0 y1 y2 y3 y4 y5 y6 y7 y8 y9) := by
    rw [deeper1_eq]; exact same_deeper s1 y4 y5 0 _ _ _ _
  have c2 : Stacked t r (acts x0 x1 y2 y3 y4 y5) 2 (val_main_v373 (F := Ideal) y0 y1 y2 y3 y4 y5 y6 y7 y8 y9) := by
    rw [cat2_eq]; exact stacked_succ _ c1 a1
  have s2 : Same t r (mix2 x0 x1 y2 y3 y4 y5) (val_main_v377 (F := Ideal) y0 y1 y2 y3 y4 y5 y6 y7 y8 y9) := by
    rw [sum2_eq]
    exact same_sum _ _ _ (lo := 1) (by decide) (fun h => mix2_at x0 x1 y2 y3 y4 y5 t h _) c2
      (fun j => (hg _).trans (join2 _ _ _ _ _ _ _ _ r _ j))
  have a2 : Same t r (acts x0 x1 y2 y3 y4 y5 2) (val_main_v388 (F := Ideal) y0 y1 y2 y3 y4 y5 y6 y7 y8 y9) := by
    rw [deeper2_eq]; exact same_deeper s2 y4 y5 1 _ _ _ _
  have c3 : Stacked t r (acts x0 x1 y2 y3 y4 y5) 3 (val_main_v390 (F := Ideal) y0 y1 y2 y3 y4 y5 y6 y7 y8 y9) := by
    rw [cat3_eq]; exact stacked_succ _ c2 a2
  have s3 : Same t r (mix3 x0 x1 y2 y3 y4 y5) (val_main_v394 (F := Ideal) y0 y1 y2 y3 y4 y5 y6 y7 y8 y9) := by
    rw [sum3_eq]
    exact same_sum _ _ _ (lo := 3) (by decide) (fun h => mix3_at x0 x1 y2 y3 y4 y5 t h _) c3
      (fun j => (hg _).trans (join3 _ _ _ _ _ _ _ _ r _ j))
  have a3 : Same t r (acts x0 x1 y2 y3 y4 y5 3) (val_main_v405 (F := Ideal) y0 y1 y2 y3 y4 y5 y6 y7 y8 y9) := by
    rw [deeper3_eq]; exact same_deeper s3 y4 y5 2 _ _ _ _
  have c4 : Stacked t r (acts x0 x1 y2 y3 y4 y5) 4 (val_main_v407 (F := Ideal) y0 y1 y2 y3 y4 y5 y6 y7 y8 y9) := by
    rw [cat4_eq]; exact stacked_succ _ c3 a3
  have s4 : Same t r (mix4 x0 x1 y2 y3 y4 y5) (val_main_v411 (F := Ideal) y0 y1 y2 y3 y4 y5 y6 y7 y8 y9) := by
    rw [sum4_eq]
    exact same_sum _ _ _ (lo := 6) (by decide) (fun h => mix4_at x0 x1 y2 y3 y4 y5 t h _) c4
      (fun j => (hg _).trans (join4 _ _ _ _ _ _ _ _ r _ j))
  have a4 : Same t r (acts x0 x1 y2 y3 y4 y5 4) (val_main_v422 (F := Ideal) y0 y1 y2 y3 y4 y5 y6 y7 y8 y9) := by
    rw [deeper4_eq]; exact same_deeper s4 y4 y5 3 _ _ _ _
  have c5 : Stacked t r (acts x0 x1 y2 y3 y4 y5) 5 (val_main_v424 (F := Ideal) y0 y1 y2 y3 y4 y5 y6 y7 y8 y9) := by
    rw [cat5_eq]; exact stacked_succ _ c4 a4
  have s5 : Same t r (mix5 x0 x1 y2 y3 y4 y5) (val_main_v428 (F := Ideal) y0 y1 y2 y3 y4 y5 y6 y7 y8 y9) := by
    rw [sum5_eq]
    exact same_sum _ _ _ (lo := 10) (by decide) (fun h => mix5_at x0 x1 y2 y3 y4 y5 t h _) c5
      (fun j => (hg _).trans (join5 _ _ _ _ _ _ _ _ r _ j))
  have a5 : Same t r (acts x0 x1 y2 y3 y4 y5 5) (val_main_v439 (F := Ideal) y0 y1 y2 y3 y4 y5 y6 y7 y8 y9) := by
    rw [deeper5_eq]; exact same_deeper s5 y4 y5 4 _ _ _ _
  have c6 : Stacked t r (acts x0 x1 y2 y3 y4 y5) 6 (val_main_v441 (F := Ideal) y0 y1 y2 y3 y4 y5 y6 y7 y8 y9) := by
    rw [cat6_eq]; exact stacked_succ _ c5 a5
  have s6 : Same t r (mix6 x0 x1 y2 y3 y4 y5) (val_main_v445 (F := Ideal) y0 y1 y2 y3 y4 y5 y6 y7 y8 y9) := by
    rw [sum6_eq]
    exact same_sum _ _ _ (lo := 15) (by decide) (fun h => mix6_at x0 x1 y2 y3 y4 y5 t h _) c6
      (fun j => (hg _).trans (join6 _ _ _ _ _ _ _ _ r _ j))
  have a6 : Same t r (acts x0 x1 y2 y3 y4 y5 6) (val_main_v456 (F := Ideal) y0 y1 y2 y3 y4 y5 y6 y7 y8 y9) := by
    rw [deeper6_eq]; exact same_deeper s6 y4 y5 5 _ _ _ _
  have c7 : Stacked t r (acts x0 x1 y2 y3 y4 y5) 7 (val_main_v458 (F := Ideal) y0 y1 y2 y3 y4 y5 y6 y7 y8 y9) := by
    rw [cat7_eq]; exact stacked_succ _ c6 a6
  have s7 : Same t r (mix7 x0 x1 y2 y3 y4 y5) (val_main_v462 (F := Ideal) y0 y1 y2 y3 y4 y5 y6 y7 y8 y9) := by
    rw [sum7_eq]
    exact same_sum _ _ _ (lo := 21) (by decide) (fun h => mix7_at x0 x1 y2 y3 y4 y5 t h _) c7
      (fun j => (hg _).trans (join7 _ _ _ _ _ _ _ _ r _ j))
  have a7 : Same t r (acts x0 x1 y2 y3 y4 y5 7) (val_main_v473 (F := Ideal) y0 y1 y2 y3 y4 y5 y6 y7 y8 y9) := by
    rw [deeper7_eq]; exact same_deeper s7 y4 y5 6 _ _ _ _
  have c8 : Stacked t r (acts x0 x1 y2 y3 y4 y5) 8 (val_main_v475 (F := Ideal) y0 y1 y2 y3 y4 y5 y6 y7 y8 y9) := by
    rw [cat8_eq]; exact stacked_succ _ c7 a7
  have s8 : Same t r (mix8 x0 x1 y2 y3 y4 y5) (val_main_v479 (F := Ideal) y0 y1 y2 y3 y4 y5 y6 y7 y8 y9) := by
    rw [sum8_eq]
    exact same_sum _ _ _ (lo := 28) (by decide) (fun h => mix8_at x0 x1 y2 y3 y4 y5 t h _) c8
      (fun j => (hg _).trans (join8 _ _ _ _ _ _ _ _ r _ j))
  exact s8

end Cert.Mixture
-- ==== Proof.Arrays.lean ====
/- The four result arrays after the two launches, from their blocks. -/
module

public import proofs.«01_k».proof.Proof.Logits
public import proofs.«01_k».proof.Proof.MixtureRef
public import Idealize.ShloMosaic.Lib.Pipeline.ValueKit.Geometry

@[expose] public section

noncomputable section

namespace Cert.Arrays

open Idealize.ShloMosaic Idealize.SL.Sem Cert.KernelIdeal Cert.KernelIdeal.Gen Cert.Gate Cert.GateRef Cert.Mixture
open Idealize.ShloMosaic.Pipeline

variable (V : (c : Dev nD) → (b : Ref sig .tc) → Buf (Elt Ideal) ((c.tc : Thread nD τ).loc b)) (c : Dev nD)

/-- Row `p` of block `t` in the first launch. -/
def row0 (t : Fin cfg0.N) (p : Fin 1024) : Fin 8192 := ⟨t.val * 1024 + p.val, by
  have h : t.val < 8 := t.isLt
  have := p.isLt
  omega⟩

theorem at0_0 : ∀ t : Fin cfg0.N, win0_0.index t = ![t.val, 0] := (by decide +kernel : ∀ t : Fin grid0.N, _)
theorem at0_1 : ∀ t : Fin cfg0.N, win0_1.index t = ![0, 0] := (by decide +kernel : ∀ t : Fin grid0.N, _)
theorem at0_2 : ∀ t : Fin cfg0.N, win0_2.index t = ![0] := (by decide +kernel : ∀ t : Fin grid0.N, _)
theorem at0_3 : ∀ t : Fin cfg0.N, win0_3.index t = ![0, 0] := (by decide +kernel : ∀ t : Fin grid0.N, _)
theorem at0_4 : ∀ t : Fin cfg0.N, win0_4.index t = ![0] := (by decide +kernel : ∀ t : Fin grid0.N, _)
theorem at0_5 : ∀ t : Fin cfg0.N, win0_5.index t = ![t.val, 0] := (by decide +kernel : ∀ t : Fin grid0.N, _)
theorem at0_6 : ∀ t : Fin cfg0.N, win0_6.index t = ![t.val, 0] := (by decide +kernel : ∀ t : Fin grid0.N, _)
theorem at0_7 : ∀ t : Fin cfg0.N, win0_7.index t = ![t.val, 0] := (by decide +kernel : ∀ t : Fin grid0.N, _)

theorem emb0_0 (t : Fin cfg0.N) (p : Fin 1024) (l : Fin 1024) : (win0_0.blk t).view.emb (ix2 p l) = ix2 (row0 t p) l := by
  blk_ext [at0_0, row0]
theorem emb0_5 (t : Fin cfg0.N) (p : Fin 1024) (l : Fin 36) : (win0_5.blk t).view.emb (ix2 p l) = ix2 (row0 t p) l := by
  blk_ext [at0_5, row0]
theorem emb0_6 (t : Fin cfg0.N) (p : Fin 1024) (l : Fin 36) : (win0_6.blk t).view.emb (ix2 p l) = ix2 (row0 t p) l := by
  blk_ext [at0_6, row0]
theorem emb0_7 (t : Fin cfg0.N) (p : Fin 1024) (l : Fin 36) : (win0_7.blk t).view.emb (ix2 p l) = ix2 (row0 t p) l := by
  blk_ext [at0_7, row0]

theorem in0_0 (t : Fin cfg0.N) (p : Fin 1024) (l : Fin 1024) : iblk0 V c 0 t (ix2 p l) = V c main_arg1 (ix2 (row0 t p) l) := by
  blk_simp [iblk0]
  exact congrArg (V c main_arg1) (emb0_0 t p l)
theorem in0_1 (t : Fin cfg0.N) : iblk0 V c 1 t = V c main_arg6 := by
  funext y
  blk_simp [iblk0]
  refine congrArg (V c main_arg6) ?_
  blk_ext [at0_1]
theorem in0_2 (t : Fin cfg0.N) : iblk0 V c 2 t = V c main_arg7 := by
  funext y
  blk_simp [iblk0]
  refine congrArg (V c main_arg7) ?_
  blk_ext [at0_2]
theorem in0_3 (t : Fin cfg0.N) : iblk0 V c 3 t = V c main_arg8 := by
  funext y
  blk_simp [iblk0]
  refine congrArg (V c main_arg8) ?_
  blk_ext [at0_3]
theorem in0_4 (t : Fin cfg0.N) : iblk0 V c 4 t = V c main_arg9 := by
  funext y
  blk_simp [iblk0]
  refine congrArg (V c main_arg9) ?_
  blk_ext [at0_4]

/-- The gating logits of block `t` are rows of the reference's logits. -/
theorem logits_row (t : Fin cfg0.N) (p : Fin 1024) (l : Fin 36) :
    Cert.ReferenceIdeal.Read.val_main_v10 (F := Ideal) (V c main_arg1) (V c main_arg6) (V c main_arg7) (V c main_arg8) (V c main_arg9) (ix2 (row0 t p) l)
      = logits (iblk0 V c 0 t) (iblk0 V c 1 t) (iblk0 V c 2 t) (iblk0 V c 3 t) (iblk0 V c 4 t) (ix2 p l) := by
  rw [ref_logit, in0_1, in0_2, in0_3, in0_4]
  refine Eq.trans ?_ (block_logit (V c main_arg6) (V c main_arg7) (V c main_arg8) (V c main_arg9) (iblk0 V c 0 t) p l).symm
  refine congrArg (fun v => logit v (V c main_arg6) (V c main_arg7) (V c main_arg8) (V c main_arg9) l) (funext fun k => ?_)
  exact (in0_0 V c t p k).symm

/-- The gating arguments hold real numbers. -/
structure Finite : Prop where
  input : Reals (V c main_arg1 : FVec Ideal S8192x1024 .f32)
  w0 : Reals (V c main_arg6 : FVec Ideal S512x1024 .f32)
  b0 : Reals (V c main_arg7 : FVec Ideal S512 .f32)
  w1 : Reals (V c main_arg8 : FVec Ideal S36x512 .f32)
  b1 : Reals (V c main_arg9 : FVec Ideal S36 .f32)

variable {V c} in
theorem logits_real (hv : Finite V c) (t : Fin cfg0.N) (p : Fin 1024) :
    AllReal fun l : Fin 36 => logits (iblk0 V c 0 t) (iblk0 V c 1 t) (iblk0 V c 2 t) (iblk0 V c 3 t) (iblk0 V c 4 t) (ix2 p l) := by
  intro l
  show ∃ x : ℝ, logits (iblk0 V c 0 t) (iblk0 V c 1 t) (iblk0 V c 2 t) (iblk0 V c 3 t) (iblk0 V c 4 t) (ix2 p l) = x
  rw [← logits_row, ref_logit]
  exact real_logit (fun _ => hv.input _) hv.w0 hv.b0 hv.w1 hv.b1 l

variable {V c} in
/-- What the first launch leaves in its result window 5. -/
theorem gates_array (hv : Finite V c) : (dat0 V c).arrAt 5 cfg0.N
    = Cert.ReferenceIdeal.Read.val_main_v480 (F := Ideal) (V c main_arg1) (V c main_arg6) (V c main_arg7) (V c main_arg8) (V c main_arg9) := by
  refine (dat0 V c).arrAt_eq_of_covers 5 _ (by decide +kernel) fun t hf y => ?_
  blk_simp
  rw [after0_5]
  obtain ⟨p, l, rfl⟩ : ∃ (p : Fin 1024) (l : Fin 36), y = ix2 p l := ⟨y 0, y 1, by funext d; fin_cases d <;> rfl⟩
  refine Eq.trans ?_ (congrArg (Cert.ReferenceIdeal.Read.val_main_v480 (F := Ideal) (V c main_arg1) (V c main_arg6) (V c main_arg7) (V c main_arg8) (V c main_arg9))
    (emb0_5 t p l)).symm
  rw [gates_block, ld_all]
  exact gates_row (fun k => logits_row V c t p k) (logits_real hv t p) l

variable {V c} in
/-- What the first launch leaves in its result window 6. -/
theorem hots_array (hv : Finite V c) : (dat0 V c).arrAt 6 cfg0.N
    = Cert.ReferenceIdeal.Read.val_main_v481 (F := Ideal) (V c main_arg1) (V c main_arg6) (V c main_arg7) (V c main_arg8) (V c main_arg9) := by
  refine (dat0 V c).arrAt_eq_of_covers 6 _ (by decide +kernel) fun t hf y => ?_
  blk_simp
  rw [after0_6]
  obtain ⟨p, l, rfl⟩ : ∃ (p : Fin 1024) (l : Fin 36), y = ix2 p l := ⟨y 0, y 1, by funext d; fin_cases d <;> rfl⟩
  refine Eq.trans ?_ (congrArg (Cert.ReferenceIdeal.Read.val_main_v481 (F := Ideal) (V c main_arg1) (V c main_arg6) (V c main_arg7) (V c main_arg8) (V c main_arg9))
    (emb0_6 t p l)).symm
  rw [hot_block, ld_all]
  exact hots_row (fun k => logits_row V c t p k) (logits_real hv t p) l

variable {V c} in
/-- What the first launch leaves in its result window 7. -/
theorem softs_array (hv : Finite V c) : (dat0 V c).arrAt 7 cfg0.N
    = Cert.ReferenceIdeal.Read.val_main_v482 (F := Ideal) (V c main_arg1) (V c main_arg6) (V c main_arg7) (V c main_arg8) (V c main_arg9) := by
  refine (dat0 V c).arrAt_eq_of_covers 7 _ (by decide +kernel) fun t hf y => ?_
  blk_simp
  rw [after0_7]
  obtain ⟨p, l, rfl⟩ : ∃ (p : Fin 1024) (l : Fin 36), y = ix2 p l := ⟨y 0, y 1, by funext d; fin_cases d <;> rfl⟩
  refine Eq.trans ?_ (congrArg (Cert.ReferenceIdeal.Read.val_main_v482 (F := Ideal) (V c main_arg1) (V c main_arg6) (V c main_arg7) (V c main_arg8) (V c main_arg9))
    (emb0_7 t p l)).symm
  rw [soft_block, ld_all]
  exact softs_row (fun k => logits_row V c t p k) (logits_real hv t p) l

/-- Row `p` of block `t` in the second launch. -/
def row1 (t : Fin cfg1.N) (p : Fin 512) : Fin 8192 := ⟨t.val * 512 + p.val, by
  have h : t.val < 16 := t.isLt
  have := p.isLt
  omega⟩

theorem at1_0 : ∀ t : Fin cfg1.N, win1_0.index t = ![t.val, 0] := (by decide +kernel : ∀ t : Fin grid1.N, _)
theorem at1_1 : ∀ t : Fin cfg1.N, win1_1.index t = ![t.val, 0] := (by decide +kernel : ∀ t : Fin grid1.N, _)
theorem at1_2 : ∀ t : Fin cfg1.N, win1_2.index t = ![0, 0] := (by decide +kernel : ∀ t : Fin grid1.N, _)
theorem at1_3 : ∀ t : Fin cfg1.N, win1_3.index t = ![0] := (by decide +kernel : ∀ t : Fin grid1.N, _)
theorem at1_4 : ∀ t : Fin cfg1.N, win1_4.index t = ![0, 0, 0] := (by decide +kernel : ∀ t : Fin grid1.N, _)
theorem at1_5 : ∀ t : Fin cfg1.N, win1_5.index t = ![0, 0] := (by decide +kernel : ∀ t : Fin grid1.N, _)
theorem at1_6 : ∀ t : Fin cfg1.N, win1_6.index t = ![t.val, 0] := (by decide +kernel : ∀ t : Fin grid1.N, _)

theorem emb1_0 (t : Fin cfg1.N) (p : Fin 512) (l : Fin 1024) : (win1_0.blk t).view.emb (ix2 p l) = ix2 (row1 t p) l := by
  blk_ext [at1_0, row1]

theorem emb1_1 (t : Fin cfg1.N) (p : Fin 512) (l : Fin 36) : (win1_1.blk t).view.emb (ix2 p l) = ix2 (row1 t p) l := by
  blk_ext [at1_1, row1]

theorem emb1_6 (t : Fin cfg1.N) (p : Fin 512) (l : Fin 1024) : (win1_6.blk t).view.emb (ix2 p l) = ix2 (row1 t p) l := by
  blk_ext [at1_6, row1]
theorem in1_0 (t : Fin cfg1.N) (p : Fin 512) (l : Fin 1024) : iblk1 V c 0 t (ix2 p l) = V c main_arg0 (ix2 (row1 t p) l) := by
  blk_simp [iblk1]
  exact congrArg (V c main_arg0) (emb1_0 t p l)
theorem in1_1 (t : Fin cfg1.N) (p : Fin 512) (l : Fin 36) : iblk1 V c 1 t (ix2 p l) = V c main_v0_1 (ix2 (row1 t p) l) := by
  blk_simp [iblk1]
  exact congrArg (V c main_v0_1) (emb1_1 t p l)
theorem in1_2 (t : Fin cfg1.N) : iblk1 V c 2 t = V c main_arg2 := by
  funext y
  blk_simp [iblk1]
  refine congrArg (V c main_arg2) ?_
  blk_ext [at1_2]
theorem in1_3 (t : Fin cfg1.N) : iblk1 V c 3 t = V c main_arg3 := by
  funext y
  blk_simp [iblk1]
  refine congrArg (V c main_arg3) ?_
  blk_ext [at1_3]
theorem in1_4 (t : Fin cfg1.N) : iblk1 V c 4 t = V c main_arg4 := by
  funext y
  blk_simp [iblk1]
  refine congrArg (V c main_arg4) ?_
  blk_ext [at1_4]
theorem in1_5 (t : Fin cfg1.N) : iblk1 V c 5 t = V c main_arg5 := by
  funext y
  blk_simp [iblk1]
  refine congrArg (V c main_arg5) ?_
  blk_ext [at1_5]

variable {V c} in
/-- What the second launch leaves in its result window, when the gates it reads are the reference's. -/
theorem mixture_array (y1 : FVec Ideal S8192x1024 .f32) (y6 : FVec Ideal S512x1024 .f32) (y7 : FVec Ideal S512 .f32) (y8 : FVec Ideal S36x512 .f32)
    (y9 : FVec Ideal S36 .f32) (hg : V c main_v0_1 = Cert.ReferenceIdeal.Read.val_main_v480 (F := Ideal) y1 y6 y7 y8 y9) :
    (dat1 V c).arrAt 6 cfg1.N = Cert.ReferenceIdeal.Read.val_main_v479 (F := Ideal) (V c main_arg0) y1 (V c main_arg2) (V c main_arg3) (V c main_arg4)
      (V c main_arg5) y6 y7 y8 y9 := by
  refine (dat1 V c).arrAt_eq_of_covers 6 _ (by decide +kernel) fun t hf y => ?_
  blk_simp
  rw [after1_6]
  obtain ⟨p, l, rfl⟩ : ∃ (p : Fin 512) (l : Fin 1024), y = ix2 p l := ⟨y 0, y 1, by funext d; fin_cases d <;> rfl⟩
  refine Eq.trans ?_ (congrArg (Cert.ReferenceIdeal.Read.val_main_v479 (F := Ideal) (V c main_arg0) y1 (V c main_arg2) (V c main_arg3) (V c main_arg4)
    (V c main_arg5) y6 y7 y8 y9) (emb1_6 t p l)).symm
  rw [in1_2, in1_3, in1_4, in1_5]
  exact mixture_row (t := p) (r := row1 t p) (V c main_arg0) y1 (V c main_arg2) (V c main_arg3) (V c main_arg4) (V c main_arg5) y6 y7 y8 y9
    (iblk1 V c 0 t) (iblk1 V c 1 t) (fun k => in1_0 V c t p k) (fun k => (in1_1 V c t p k).trans (congrFun hg _)) l

end Cert.Arrays
-- ==== Proof.KernelRun.lean ====
/- The kernel's run with its four results, each at the reference's value of the argument arrays. -/
module

public import proofs.«01_k».proof.Proof.Arrays

@[expose] public section

noncomputable section

namespace Cert.Arrays

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Cert.KernelIdeal Cert.KernelIdeal.Gen

/-- The assertions of the run. -/
local notation "𝕄" => MT nD τ sig Unit (Elt Ideal) ℕ (UR sig nD τ) ℕ

variable (m : (ℓ : Loc nD τ sig) → Buf (Elt Ideal) ℓ) (ρ : Dev nD → PrngReg)

variable {m} in
/-- The gates after the first launch. -/
theorem gates_mid (c : Dev nD) (hv : Finite (V0 m ρ) c) :
    W1 m ρ c (Proc.devRef .tc main_v0_1) = Cert.ReferenceIdeal.Read.val_main_v480 (F := Ideal) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) :=
  (W1_arr m ρ c 5).trans (gates_array hv)

variable {m} in
theorem main_v0_0_final (c : Dev nD) (hv : Finite (V0 m ρ) c) :
    W2 m ρ c (Proc.devRef .tc main_v0_0) = Cert.ReferenceIdeal.Read.val_main_v479 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) :=
  (W2_arr m ρ c 6).trans ((mixture_array (V := V1 m ρ) (c := c) _ _ _ _ _ (gates_mid ρ c hv)).trans (by
    rw [show V1 m ρ c main_arg0 = m ((c.tc : Thread nD τ).loc main_arg0) from W1_args m ρ c main_arg0 (by simp),
      show V1 m ρ c main_arg2 = m ((c.tc : Thread nD τ).loc main_arg2) from W1_args m ρ c main_arg2 (by simp),
      show V1 m ρ c main_arg3 = m ((c.tc : Thread nD τ).loc main_arg3) from W1_args m ρ c main_arg3 (by simp),
      show V1 m ρ c main_arg4 = m ((c.tc : Thread nD τ).loc main_arg4) from W1_args m ρ c main_arg4 (by simp),
      show V1 m ρ c main_arg5 = m ((c.tc : Thread nD τ).loc main_arg5) from W1_args m ρ c main_arg5 (by simp)]))

variable {m} in
theorem main_v0_1_final (c : Dev nD) (hv : Finite (V0 m ρ) c) :
    W2 m ρ c (Proc.devRef .tc main_v0_1) = Cert.ReferenceIdeal.Read.val_main_v480 (F := Ideal) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) :=
  (W2_of m ρ c main_v0_1 (by decide +kernel)).trans (gates_mid ρ c hv)

variable {m} in
theorem main_v0_2_final (c : Dev nD) (hv : Finite (V0 m ρ) c) :
    W2 m ρ c (Proc.devRef .tc main_v0_2) = Cert.ReferenceIdeal.Read.val_main_v481 (F := Ideal) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) :=
  (W2_of m ρ c main_v0_2 (by decide +kernel)).trans ((W1_arr m ρ c 6).trans (hots_array hv))

variable {m} in
theorem main_v0_3_final (c : Dev nD) (hv : Finite (V0 m ρ) c) :
    W2 m ρ c (Proc.devRef .tc main_v0_3) = Cert.ReferenceIdeal.Read.val_main_v482 (F := Ideal) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9)) :=
  (W2_of m ρ c main_v0_3 (by decide +kernel)).trans ((W1_arr m ρ c 7).trans (softs_array hv))

set_option backward.isDefEq.respectTransparency.types false in
/-- The kernel's run: the results at the reference's values, the arguments unchanged. -/
theorem kernel_run (hv : ∀ c, Finite (V0 m ρ) c) :
    θ_run defs (onTc (τ := τ) (main (F := Ideal))) ⟨m, fun _ => 0, ρ⟩ (fun r => ∀ c : Dev nD,
      r.2.mem ((c.tc : Thread nD τ).loc main_v0_0) = Cert.ReferenceIdeal.Read.val_main_v479 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v0_1) = Cert.ReferenceIdeal.Read.val_main_v480 (F := Ideal) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v0_2) = Cert.ReferenceIdeal.Read.val_main_v481 (F := Ideal) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_v0_3) = Cert.ReferenceIdeal.Read.val_main_v482 (F := Ideal) (m ((c.tc : Thread nD τ).loc main_arg1)) (m ((c.tc : Thread nD τ).loc main_arg6)) (m ((c.tc : Thread nD τ).loc main_arg7)) (m ((c.tc : Thread nD τ).loc main_arg8)) (m ((c.tc : Thread nD τ).loc main_arg9))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h _ c =>
      ⟨(h c _ (mem_uc main_v0_0 (by decide))).trans (main_v0_0_final ρ c (hv c)),
       (h c _ (mem_uc main_v0_1 (by decide))).trans (main_v0_1_final ρ c (hv c)),
       (h c _ (mem_uc main_v0_2 (by decide))).trans (main_v0_2_final ρ c (hv c)),
       (h c _ (mem_uc main_v0_3 (by decide))).trans (main_v0_3_final ρ c (hv c)),
       (h c _ (mem_uc main_arg0 (by decide))).trans (W2_main_arg0 m ρ c),
       (h c _ (mem_uc main_arg1 (by decide))).trans (W2_main_arg1 m ρ c),
       (h c _ (mem_uc main_arg2 (by decide))).trans (W2_main_arg2 m ρ c),
       (h c _ (mem_uc main_arg3 (by decide))).trans (W2_main_arg3 m ρ c),
       (h c _ (mem_uc main_arg4 (by decide))).trans (W2_main_arg4 m ρ c),
       (h c _ (mem_uc main_arg5 (by decide))).trans (W2_main_arg5 m ρ c),
       (h c _ (mem_uc main_arg6 (by decide))).trans (W2_main_arg6 m ρ c),
       (h c _ (mem_uc main_arg7 (by decide))).trans (W2_main_arg7 m ρ c),
       (h c _ (mem_uc main_arg8 (by decide))).trans (W2_main_arg8 m ρ c),
       (h c _ (mem_uc main_arg9 (by decide))).trans (W2_main_arg9 m ρ c)⟩)

end Cert.Arrays
-- ==== Proof.lean ====
module

public import proofs.«01_k».proof.Defs
public import proofs.«01_k».proof.Proof.KernelRun
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import Idealize.ShloMosaic.Adequacy
public import Idealize.ShloMosaic.Init

@[expose] public section

noncomputable section

namespace Cert.Proof

open Idealize.ShloMosaic Idealize.SL.Sem
open scoped Idealize.ShloMosaic.TcCoe

/-- The precondition compares each gate argument with a constant spread over its shape: a constant has no axes, so every
    such spread is allowed. -/
theorem gate_shapes : Cert.Pre_finite_gate.Facts where
  bcast_S_S8192x1024 := by decide
  bcast_S_S512x1024 := by decide
  bcast_S_S512 := by decide
  bcast_S_S36x512 := by decide
  bcast_S_S36 := by decide

attribute [local instance] Cert.Kernel.Gen.facts Cert.KernelIdeal.Gen.facts Cert.ReferenceIdeal.Gen.facts gate_shapes

/-- The kernel as written leaves its arguments as they were and every counter at zero. -/
theorem kernel_frame : Cert.quiescent_Kernel := fun m ρ _ => Cert.Kernel.Gen.frame m ρ

/-- So does the kernel at the ideal numbers. -/
theorem ideal_frame : Cert.quiescent_KernelIdeal := fun m ρ _ => Cert.KernelIdeal.Gen.frame m ρ

/-- In particular on arguments that pass the precondition. -/
theorem ideal_frame_gate : Cert.quiescent_KernelIdeal_pre_finite_gate := fun m ρ _ => Cert.KernelIdeal.Gen.frame m ρ

/-- The reference writes none of its arguments, and it has no counters. -/
theorem reference_frame : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- In particular on arguments that pass the precondition. -/
theorem reference_frame_gate : Cert.quiescent_ReferenceIdeal_pre_finite_gate := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

/-- The one named constant, the kernel's mask, stands for the least ideal number. -/
theorem mask_named : Cert.preserves_Kernel_KernelIdeal :=
  IdealRules.named_const.statement Cert.KernelIdeal.κ "mask" .f32 0xF149F2CA#32 ⊥ rfl

/-- Arguments that pass the precondition hold real numbers wherever the gate reads them. -/
theorem finite_of_gate (m : (ℓ : Loc Cert.KernelIdeal.nD Cert.KernelIdeal.τ Cert.KernelIdeal.sig) → Buf (Elt Ideal) ℓ)
    (ρ : Dev Cert.KernelIdeal.nD → PrngReg) (h : Cert.Pre_KernelIdeal_finite_gate m) (c : Dev Cert.KernelIdeal.nD) :
    Cert.Arrays.Finite (Cert.KernelIdeal.Gen.V0 m ρ) c where
  input := Cert.GateRef.reals_of_test _ _ _ (h c).1
  w0 := Cert.GateRef.reals_of_test _ _ _ (h c).2.1
  b0 := Cert.GateRef.reals_of_test _ _ _ (h c).2.2.1
  w1 := Cert.GateRef.reals_of_test _ _ _ (h c).2.2.2.1
  b1 := Cert.GateRef.reals_of_test _ _ _ (h c).2.2.2.2

/-- On arguments that agree and pass the precondition, the kernel and the reference end with the same four arrays: the
    kernel's are the reference's own formulas of the arguments. -/
theorem same_arrays : Cert.algebraic_KernelIdeal_ReferenceIdeal_pre_finite_gate := by
  intro m ρ m' ρ' hpre agree
  refine ⟨fun c => Cert.ReferenceIdeal.Read.val_main_v479 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v480 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v481 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    fun c => Cert.ReferenceIdeal.Read.val_main_v482 (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)),
    Cert.Arrays.kernel_run m ρ fun c => finite_of_gate m ρ hpre c,
    (θ_run Cert.ReferenceIdeal.defs _ _).mono (fun r h c => ?_) (Cert.ReferenceIdeal.Value.run (F := Ideal) m' ρ')⟩
  obtain ⟨r0, r1, r2, r3, rest⟩ := h c
  obtain ⟨e0, e1, e2, e3, e4, e5, e6, e7, e8, e9⟩ := agree c
  exact ⟨
    r0.trans ((Cert.ReferenceIdeal.Read.val_main_v479_eq (F := Ideal) (StableHlo.launchContents m' c)).trans (by
      show Cert.ReferenceIdeal.Read.val_main_v479 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
      rw [e0, e1, e2, e3, e4, e5, e6, e7, e8, e9])),
    r1.trans ((Cert.ReferenceIdeal.Read.val_main_v480_eq (F := Ideal) (StableHlo.launchContents m' c)).trans (by
      show Cert.ReferenceIdeal.Read.val_main_v480 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
      rw [e1, e6, e7, e8, e9])),
    r2.trans ((Cert.ReferenceIdeal.Read.val_main_v481_eq (F := Ideal) (StableHlo.launchContents m' c)).trans (by
      show Cert.ReferenceIdeal.Read.val_main_v481 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
      rw [e1, e6, e7, e8, e9])),
    r3.trans ((Cert.ReferenceIdeal.Read.val_main_v482_eq (F := Ideal) (StableHlo.launchContents m' c)).trans (by
      show Cert.ReferenceIdeal.Read.val_main_v482 (F := Ideal) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg6)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8)) (m' ((c.tc : Thread Cert.ReferenceIdeal.nD Cert.ReferenceIdeal.τ).loc Cert.ReferenceIdeal.main_arg9)) = _
      rw [e1, e6, e7, e8, e9])),
    rest⟩

theorem claim : Cert.Claim :=
  ⟨Cert.Kernel.Gen.facts, Cert.KernelIdeal.Gen.facts, Cert.ReferenceIdeal.Gen.facts, gate_shapes,
    kernel_frame, ideal_frame, ideal_frame_gate, reference_frame, reference_frame_gate, mask_named, same_arrays⟩

end Cert.Proof

end
